-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![768, 256]⟩ ⟨2, ![768, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 768]⟩ ⟨2, ![1024, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v85) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x768 : Shape := ⟨3, ![2, 256, 768]⟩
abbrev S768x256 : Shape := ⟨2, ![768, 256]⟩
abbrev S256x768 : Shape := ⟨2, ![256, 768]⟩
abbrev S_ : Shape := ⟨0, ![]⟩

class Facts : Prop where
  bcast_S_S2x256x768 : S_.BroadcastsInDim S2x256x768 (![] : Fin 0 → Fin S2x256x768.rank)
  bcast_S_S768x256 : S_.BroadcastsInDim S768x256 (![] : Fin 0 → Fin S768x256.rank)

variable [Facts]

def fn {F : FTy → Type} [FloatOps F] (main_arg0 : FVec F S2x256x768 .bf16) (main_arg1 : FVec F S768x256 .bf16) (main_arg2 : FVec F S768x256 .bf16) (main_arg3 : FVec F S768x256 .bf16) (main_arg4 : FVec F S256x768 .bf16) : IVec S2x256x768 1 × IVec S768x256 1 × IVec S768x256 1 :=
  let main_cst : FVec F S_ .bf16 := constant S_ .bf16 0xFF80#16
  let main_v0 : FVec F S2x256x768 .bf16 := broadcastInDim S2x256x768 ![] bcast_S_S2x256x768 main_cst
  let main_v1 : IVec S2x256x768 1 := cmpf .ogt main_arg0 main_v0
  let main_cst_0 : FVec F S_ .bf16 := constant S_ .bf16 0x7F80#16
  let main_v2 : FVec F S2x256x768 .bf16 := broadcastInDim S2x256x768 ![] bcast_S_S2x256x768 main_cst_0
  let main_v3 : IVec S2x256x768 1 := cmpf .olt main_arg0 main_v2
  let main_v4 : IVec S2x256x768 1 := andi main_v1 main_v3
  let main_cst_1 : FVec F S_ .bf16 := constant S_ .bf16 0xFF80#16
  let main_v5 : FVec F S768x256 .bf16 := broadcastInDim S768x256 ![] bcast_S_S768x256 main_cst_1
  let main_v6 : IVec S768x256 1 := cmpf .ogt main_arg1 main_v5
  let main_cst_2 : FVec F S_ .bf16 := constant S_ .bf16 0x7F80#16
  let main_v7 : FVec F S768x256 .bf16 := broadcastInDim S768x256 ![] bcast_S_S768x256 main_cst_2
  let main_v8 : IVec S768x256 1 := cmpf .olt main_arg1 main_v7
  let main_v9 : IVec S768x256 1 := andi main_v6 main_v8
  let main_cst_3 : FVec F S_ .bf16 := constant S_ .bf16 0xFF80#16
  let main_v10 : FVec F S768x256 .bf16 := broadcastInDim S768x256 ![] bcast_S_S768x256 main_cst_3
  let main_v11 : IVec S768x256 1 := cmpf .ogt main_arg2 main_v10
  let main_cst_4 : FVec F S_ .bf16 := constant S_ .bf16 0x7F80#16
  let main_v12 : FVec F S768x256 .bf16 := broadcastInDim S768x256 ![] bcast_S_S768x256 main_cst_4
  let main_v13 : IVec S768x256 1 := cmpf .olt main_arg2 main_v12
  let main_v14 : IVec S768x256 1 := andi main_v11 main_v13
  (main_v4, main_v9, main_v14)
-- ==== Pre_finite_ReferenceIdeal.lean ====
abbrev S2x256x768 : Shape := ⟨3, ![2, 256, 768]⟩
abbrev S768x1024 : Shape := ⟨2, ![768, 1024]⟩
abbrev S1024x768 : Shape := ⟨2, ![1024, 768]⟩
abbrev S_ : Shape := ⟨0, ![]⟩

class Facts : Prop where
  bcast_S_S2x256x768 : S_.BroadcastsInDim S2x256x768 (![] : Fin 0 → Fin S2x256x768.rank)
  bcast_S_S768x1024 : S_.BroadcastsInDim S768x1024 (![] : Fin 0 → Fin S768x1024.rank)

variable [Facts]

def fn {F : FTy → Type} [FloatOps F] (main_arg0 : FVec F S2x256x768 .bf16) (main_arg1 : FVec F S768x1024 .bf16) (main_arg2 : FVec F S768x1024 .bf16) (main_arg3 : FVec F S768x1024 .bf16) (main_arg4 : FVec F S1024x768 .bf16) : IVec S2x256x768 1 × IVec S768x1024 1 × IVec S768x1024 1 :=
  let main_cst : FVec F S_ .bf16 := constant S_ .bf16 0xFF80#16
  let main_v0 : FVec F S2x256x768 .bf16 := broadcastInDim S2x256x768 ![] bcast_S_S2x256x768 main_cst
  let main_v1 : IVec S2x256x768 1 := cmpf .ogt main_arg0 main_v0
  let main_cst_0 : FVec F S_ .bf16 := constant S_ .bf16 0x7F80#16
  let main_v2 : FVec F S2x256x768 .bf16 := broadcastInDim S2x256x768 ![] bcast_S_S2x256x768 main_cst_0
  let main_v3 : IVec S2x256x768 1 := cmpf .olt main_arg0 main_v2
  let main_v4 : IVec S2x256x768 1 := andi main_v1 main_v3
  let main_cst_1 : FVec F S_ .bf16 := constant S_ .bf16 0xFF80#16
  let main_v5 : FVec F S768x1024 .bf16 := broadcastInDim S768x1024 ![] bcast_S_S768x1024 main_cst_1
  let main_v6 : IVec S768x1024 1 := cmpf .ogt main_arg1 main_v5
  let main_cst_2 : FVec F S_ .bf16 := constant S_ .bf16 0x7F80#16
  let main_v7 : FVec F S768x1024 .bf16 := broadcastInDim S768x1024 ![] bcast_S_S768x1024 main_cst_2
  let main_v8 : IVec S768x1024 1 := cmpf .olt main_arg1 main_v7
  let main_v9 : IVec S768x1024 1 := andi main_v6 main_v8
  let main_cst_3 : FVec F S_ .bf16 := constant S_ .bf16 0xFF80#16
  let main_v10 : FVec F S768x1024 .bf16 := broadcastInDim S768x1024 ![] bcast_S_S768x1024 main_cst_3
  let main_v11 : IVec S768x1024 1 := cmpf .ogt main_arg2 main_v10
  let main_cst_4 : FVec F S_ .bf16 := constant S_ .bf16 0x7F80#16
  let main_v12 : FVec F S768x1024 .bf16 := broadcastInDim S768x1024 ![] bcast_S_S768x1024 main_cst_4
  let main_v13 : IVec S768x1024 1 := cmpf .olt main_arg2 main_v12
  let main_v14 : IVec S768x1024 1 := andi main_v11 main_v13
  (main_v4, main_v9, main_v14)
-- ==== Kernel.lean ====
abbrev S2x256x768 : Shape := ⟨3, ![2, 256, 768]⟩
abbrev S768x256 : Shape := ⟨2, ![768, 256]⟩
abbrev S256x768 : Shape := ⟨2, ![256, 768]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S1x256x1x64 : Shape := ⟨4, ![1, 256, 1, 64]⟩
abbrev S2x256x4x64 : Shape := ⟨4, ![2, 256, 4, 64]⟩
abbrev S512x256 : Shape := ⟨2, ![512, 256]⟩
abbrev S256x256 : Shape := ⟨2, ![256, 256]⟩
abbrev S2x256x256 : Shape := ⟨3, ![2, 256, 256]⟩
abbrev S4x128x768 : Shape := ⟨3, ![4, 128, 768]⟩
abbrev S128x768 : Shape := ⟨2, ![128, 768]⟩
abbrev S4 : Shape := ⟨1, ![4]⟩
abbrev S512x768 : Shape := ⟨2, ![512, 768]⟩
abbrev S1x256x64 : Shape := ⟨3, ![1, 256, 64]⟩
abbrev S1x128x256 : Shape := ⟨3, ![1, 128, 256]⟩
abbrev S128x256 : Shape := ⟨2, ![128, 256]⟩
abbrev S1x128x768 : Shape := ⟨3, ![1, 128, 768]⟩
abbrev S1 : Shape := ⟨1, ![1]⟩

abbrev nBuf : Space → Nat
  | .hbm => 87
  | .vmem => 16
  | .smem => 0
  | _ => 0

abbrev bufTy : (tb : Table) → Fin (tcTables nBuf tb) → BufTy
  | .hbm, ⟨0, _⟩ => ⟨S2x256x768, .bf16⟩
  | .hbm, ⟨1, _⟩ => ⟨S768x256, .bf16⟩
  | .hbm, ⟨2, _⟩ => ⟨S768x256, .bf16⟩
  | .hbm, ⟨3, _⟩ => ⟨S768x256, .bf16⟩
  | .hbm, ⟨4, _⟩ => ⟨S256x768, .bf16⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S256, .i32⟩
  | .hbm, ⟨23, _⟩ => ⟨S256x1, .i32⟩
  | .hbm, ⟨24, _⟩ => ⟨S1x32, .f32⟩
  | .hbm, ⟨25, _⟩ => ⟨S256x1, .f32⟩
  | .hbm, ⟨26, _⟩ => ⟨S256x32, .f32⟩
  | .hbm, ⟨27, _⟩ => ⟨S256x32, .f32⟩
  | .hbm, ⟨28, _⟩ => ⟨S256x32, .f32⟩
  | .hbm, ⟨29, _⟩ => ⟨S256x32, .f32⟩
  | .hbm, ⟨30, _⟩ => ⟨S256x32x2, .f32⟩
  | .hbm, ⟨31, _⟩ => ⟨S256x64, .f32⟩
  | .hbm, ⟨32, _⟩ => ⟨S256x32, .f32⟩
  | .hbm, ⟨33, _⟩ => ⟨S256x32x2, .f32⟩
  | .hbm, ⟨34, _⟩ => ⟨S256x64, .f32⟩
  | .hbm, ⟨35, _⟩ => ⟨S1x256x1x64, .f32⟩
  | .hbm, ⟨36, _⟩ => ⟨S2x256x4x64, .f32⟩
  | .hbm, ⟨37, _⟩ => ⟨S512x256, .f32⟩
  | .hbm, ⟨38, _⟩ => ⟨S1x256x1x64, .f32⟩
  | .hbm, ⟨39, _⟩ => ⟨S2x256x4x64, .f32⟩
  | .hbm, ⟨40, _⟩ => ⟨S512x256, .f32⟩
  | .hbm, ⟨41, _⟩ => ⟨S256x256, .i32⟩
  | .hbm, ⟨42, _⟩ => ⟨S256x256, .i32⟩
  | .hbm, ⟨43, _⟩ => ⟨S_, .f32⟩
  | .hbm, ⟨44, _⟩ => ⟨S256x256, .f32⟩
  | .hbm, ⟨45, _⟩ => ⟨S_, .i32⟩
  | .hbm, ⟨46, _⟩ => ⟨S256x256, .i32⟩
  | .hbm, ⟨47, _⟩ => ⟨S256x256, .i32⟩
  | .hbm, ⟨48, _⟩ => ⟨S256x256, .i1⟩
  | .hbm, ⟨49, _⟩ => ⟨S_, .i32⟩
  | .hbm, ⟨50, _⟩ => ⟨S256x256, .i32⟩
  | .hbm, ⟨51, _⟩ => ⟨S256x256, .i32⟩
  | .hbm, ⟨52, _⟩ => ⟨S_, .i32⟩
  | .hbm, ⟨53, _⟩ => ⟨S256x256, .i32⟩
  | .hbm, ⟨54, _⟩ => ⟨S256x256, .i1⟩
  | .hbm, ⟨55, _⟩ => ⟨S256x256, .i1⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S_, .i32⟩
  | .hbm, ⟨60, _⟩ => ⟨S256x256, .i32⟩
  | .hbm, ⟨61, _⟩ => ⟨S256x256, .i32⟩
  | .hbm, ⟨62, _⟩ => ⟨S256x256, .i1⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S256x256, .i1⟩
  | .hbm, ⟨70, _⟩ => ⟨S_, .f32⟩
  | .hbm, ⟨71, _⟩ => ⟨S256x256, .f32⟩
  | .hbm, ⟨72, _⟩ => ⟨S256x256, .f32⟩
  | .hbm, ⟨73, _⟩ => ⟨S256x256, .f32⟩
  | .hbm, ⟨74, _⟩ => ⟨S256x256, .f32⟩
  | .hbm, ⟨75, _⟩ => ⟨S_, .f32⟩
  | .hbm, ⟨76, _⟩ => ⟨S512x256, .f32⟩
  | .hbm, ⟨77, _⟩ => ⟨S512x256, .f32⟩
  | .hbm, ⟨78, _⟩ => ⟨S512x256, .bf16⟩
  | .hbm, ⟨79, _⟩ => ⟨S_, .f32⟩
  | .hbm, ⟨80, _⟩ => ⟨S512x256, .f32⟩
  | .hbm, ⟨81, _⟩ => ⟨S512x256, .f32⟩
  | .hbm, ⟨82, _⟩ => ⟨S512x256, .bf16⟩
  | .hbm, ⟨83, _⟩ => ⟨S512x256, .bf16⟩
  | .hbm, ⟨84, _⟩ => ⟨S512x256, .bf16⟩
  | .hbm, ⟨85, _⟩ => ⟨S256x256, .bf16⟩
  | .hbm, ⟨86, _⟩ => ⟨S2x256x768, .f32⟩
  | .local _ .vmem, ⟨0, _⟩ => ⟨S2x256x768, .bf16⟩
  | .local _ .vmem, ⟨1, _⟩ => ⟨S768x256, .bf16⟩
  | .local _ .vmem, ⟨2, _⟩ => ⟨S768x256, .bf16⟩
  | .local _ .vmem, ⟨3, _⟩ => ⟨S768x256, .bf16⟩
  | .local _ .vmem, ⟨4, _⟩ => ⟨S256x768, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S256x256, .bf16⟩
  | .local _ .vmem, ⟨10, _⟩ => ⟨S2x256x768, .f32⟩
  | .local _ .vmem, ⟨11, _⟩ => ⟨S2x256x256, .bf16⟩
  | .local _ .vmem, ⟨12, _⟩ => ⟨S4x128x768, .bf16⟩
  | .local _ .vmem, ⟨13, _⟩ => ⟨S128x768, .bf16⟩
  | .local _ .vmem, ⟨14, _⟩ => ⟨S4x128x768, .bf16⟩
  | .local _ .vmem, ⟨15, _⟩ => ⟨S4x128x768, .bf16⟩
  | _, _ => ⟨S2x256x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_c_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_9 : Ref sig .tc := ⟨.hbm, 63, rfl⟩
abbrev main_v48 : Ref sig .tc := ⟨.hbm, 64, rfl⟩
abbrev main_v49 : Ref sig .tc := ⟨.hbm, 65, rfl⟩
abbrev main_c_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_76 : BitVec 32 := 0#32
  let c0_i32_77 : BitVec 32 := 0#32
  ![v2.toNat, 0, 0]
def k0_dev4 : Nat :=
  let c0_i32_75 : BitVec 32 := 0#32
  let c0_i32_73 : BitVec 32 := 0#32
  let c1_i32_74 : BitVec 32 := 1#32
  let v130 : BitVec 32 := Scalar.muli c0_i32_73 c1_i32_74
  let v131 : BitVec 32 := Scalar.addi c0_i32_75 v130
  v131.toNat
def k0_dev5 : Nat :=
  let c0_i32_90 : BitVec 32 := 0#32
  let c1_i32_88 : BitVec 32 := 1#32
  let c1_i32_89 : BitVec 32 := 1#32
  let v147 : BitVec 32 := Scalar.muli c1_i32_88 c1_i32_89
  let v148 : BitVec 32 := Scalar.addi c0_i32_90 v147
  v148.toNat
def k0_dev6 : Nat :=
  let c0_i32_133 : BitVec 32 := 0#32
  let c2_i32_131 : BitVec 32 := 2#32
  let c1_i32_132 : BitVec 32 := 1#32
  let v232 : BitVec 32 := Scalar.muli c2_i32_131 c1_i32_132
  let v233 : BitVec 32 := Scalar.addi c0_i32_133 v232
  v233.toNat
def k0_dev7 : Nat :=
  let c0_i32_148 : BitVec 32 := 0#32
  let c3_i32_146 : BitVec 32 := 3#32
  let c1_i32_147 : BitVec 32 := 1#32
  let v249 : BitVec 32 := Scalar.muli c3_i32_146 c1_i32_147
  let v250 : BitVec 32 := Scalar.addi c0_i32_148 v249
  v250.toNat
def k0_dev8 : Nat :=
  let c0_i32_210 : BitVec 32 := 0#32
  let c0_i32_208 : BitVec 32 := 0#32
  let c1_i32_209 : BitVec 32 := 1#32
  let v310 : BitVec 32 := Scalar.muli c0_i32_208 c1_i32_209
  let v311 : BitVec 32 := Scalar.addi c0_i32_210 v310
  v311.toNat
def k0_dev9 : Nat :=
  let c0_i32_216 : BitVec 32 := 0#32
  let c1_i32_214 : BitVec 32 := 1#32
  let c1_i32_215 : BitVec 32 := 1#32
  let v318 : BitVec 32 := Scalar.muli c1_i32_214 c1_i32_215
  let v319 : BitVec 32 := Scalar.addi c0_i32_216 v318
  v319.toNat
def k0_dev10 : Nat :=
  let c0_i32_222 : BitVec 32 := 0#32
  let c2_i32_220 : BitVec 32 := 2#32
  let c1_i32_221 : BitVec 32 := 1#32
  let v326 : BitVec 32 := Scalar.muli c2_i32_220 c1_i32_221
  let v327 : BitVec 32 := Scalar.addi c0_i32_222 v326
  v327.toNat
def k0_dev11 : Nat :=
  let c0_i32_228 : BitVec 32 := 0#32
  let c3_i32_226 : BitVec 32 := 3#32
  let c1_i32_227 : BitVec 32 := 1#32
  let v334 : BitVec 32 := Scalar.muli c3_i32_226 c1_i32_227
  let v335 : BitVec 32 := Scalar.addi c0_i32_228 v334
  v335.toNat
abbrev stage0_0 : Fin 1 → Memref sig .tc .vmem S2x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x256x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S2x256x768 : Shape := ⟨3, ![2, 256, 768]⟩
abbrev S768x1024 : Shape := ⟨2, ![768, 1024]⟩
abbrev S1024x768 : Shape := ⟨2, ![1024, 768]⟩
abbrev S32 : Shape := ⟨1, ![32]⟩
abbrev S_ : Shape := ⟨0, ![]⟩
abbrev S256 : Shape := ⟨1, ![256]⟩
abbrev S256x1 : Shape := ⟨2, ![256, 1]⟩
abbrev S1x32 : Shape := ⟨2, ![1, 32]⟩
abbrev S256x32 : Shape := ⟨2, ![256, 32]⟩
abbrev S256x32x2 : Shape := ⟨3, ![256, 32, 2]⟩
abbrev S256x64 : Shape := ⟨2, ![256, 64]⟩
abbrev S2x256x1024 : Shape := ⟨3, ![2, 256, 1024]⟩
abbrev S2x256x16x64 : Shape := ⟨4, ![2, 256, 16, 64]⟩
abbrev S2x256x16x32x2 : Shape := ⟨5, ![2, 256, 16, 32, 2]⟩
abbrev S2x256x16x32x1 : Shape := ⟨5, ![2, 256, 16, 32, 1]⟩
abbrev S2x256x16x32 : Shape := ⟨4, ![2, 256, 16, 32]⟩
abbrev S1x256x1x64 : Shape := ⟨4, ![1, 256, 1, 64]⟩
abbrev S2x16x256x256 : Shape := ⟨4, ![2, 16, 256, 256]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 99
  | .vmem => 0
  | .smem => 0
  | _ => 0

abbrev bufTy : (tb : Table) → Fin (tcTables nBuf tb) → BufTy
  | .hbm, ⟨0, _⟩ => ⟨S2x256x768, .bf16⟩
  | .hbm, ⟨1, _⟩ => ⟨S768x1024, .bf16⟩
  | .hbm, ⟨2, _⟩ => ⟨S768x1024, .bf16⟩
  | .hbm, ⟨3, _⟩ => ⟨S768x1024, .bf16⟩
  | .hbm, ⟨4, _⟩ => ⟨S1024x768, .bf16⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S256, .i32⟩
  | .hbm, ⟨23, _⟩ => ⟨S256x1, .i32⟩
  | .hbm, ⟨24, _⟩ => ⟨S1x32, .f32⟩
  | .hbm, ⟨25, _⟩ => ⟨S256x1, .f32⟩
  | .hbm, ⟨26, _⟩ => ⟨S256x32, .f32⟩
  | .hbm, ⟨27, _⟩ => ⟨S256x32, .f32⟩
  | .hbm, ⟨28, _⟩ => ⟨S256x32, .f32⟩
  | .hbm, ⟨29, _⟩ => ⟨S256x32, .f32⟩
  | .hbm, ⟨30, _⟩ => ⟨S256x32x2, .f32⟩
  | .hbm, ⟨31, _⟩ => ⟨S256x64, .f32⟩
  | .hbm, ⟨32, _⟩ => ⟨S256x32, .f32⟩
  | .hbm, ⟨33, _⟩ => ⟨S256x32x2, .f32⟩
  | .hbm, ⟨34, _⟩ => ⟨S256x64, .f32⟩
  | .hbm, ⟨35, _⟩ => ⟨S2x256x768, .f32⟩
  | .hbm, ⟨36, _⟩ => ⟨S768x1024, .f32⟩
  | .hbm, ⟨37, _⟩ => ⟨S768x1024, .f32⟩
  | .hbm, ⟨38, _⟩ => ⟨S768x1024, .f32⟩
  | .hbm, ⟨39, _⟩ => ⟨S1024x768, .f32⟩
  | .hbm, ⟨40, _⟩ => ⟨S2x256x1024, .f32⟩
  | .hbm, ⟨41, _⟩ => ⟨S2x256x16x64, .f32⟩
  | .hbm, ⟨42, _⟩ => ⟨S2x256x16x32x2, .f32⟩
  | .hbm, ⟨43, _⟩ => ⟨S2x256x16x32x1, .f32⟩
  | .hbm, ⟨44, _⟩ => ⟨S2x256x16x32, .f32⟩
  | .hbm, ⟨45, _⟩ => ⟨S2x256x16x32, .f32⟩
  | .hbm, ⟨46, _⟩ => ⟨S2x256x16x32x1, .f32⟩
  | .hbm, ⟨47, _⟩ => ⟨S2x256x16x32, .f32⟩
  | .hbm, ⟨48, _⟩ => ⟨S2x256x16x32x1, .f32⟩
  | .hbm, ⟨49, _⟩ => ⟨S2x256x16x32x1, .f32⟩
  | .hbm, ⟨50, _⟩ => ⟨S2x256x16x32x2, .f32⟩
  | .hbm, ⟨51, _⟩ => ⟨S2x256x16x64, .f32⟩
  | .hbm, ⟨52, _⟩ => ⟨S1x256x1x64, .f32⟩
  | .hbm, ⟨53, _⟩ => ⟨S2x256x16x64, .f32⟩
  | .hbm, ⟨54, _⟩ => ⟨S2x256x16x64, .f32⟩
  | .hbm, ⟨55, _⟩ => ⟨S1x256x1x64, .f32⟩
  | .hbm, ⟨56, _⟩ => ⟨S2x256x16x64, .f32⟩
  | .hbm, ⟨57, _⟩ => ⟨S2x256x16x64, .f32⟩
  | .hbm, ⟨58, _⟩ => ⟨S2x256x16x64, .f32⟩
  | .hbm, ⟨59, _⟩ => ⟨S2x256x1024, .f32⟩
  | .hbm, ⟨60, _⟩ => ⟨S2x256x16x64, .f32⟩
  | .hbm, ⟨61, _⟩ => ⟨S2x256x16x32x2, .f32⟩
  | .hbm, ⟨62, _⟩ => ⟨S2x256x16x32x1, .f32⟩
  | .hbm, ⟨63, _⟩ => ⟨S2x256x16x32, .f32⟩
  | .hbm, ⟨64, _⟩ => ⟨S2x256x16x32, .f32⟩
  | .hbm, ⟨65, _⟩ => ⟨S2x256x16x32x1, .f32⟩
  | .hbm, ⟨66, _⟩ => ⟨S2x256x16x32, .f32⟩
  | .hbm, ⟨67, _⟩ => ⟨S2x256x16x32x1, .f32⟩
  | .hbm, ⟨68, _⟩ => ⟨S2x256x16x32x1, .f32⟩
  | .hbm, ⟨69, _⟩ => ⟨S2x256x16x32x2, .f32⟩
  | .hbm, ⟨70, _⟩ => ⟨S2x256x16x64, .f32⟩
  | .hbm, ⟨71, _⟩ => ⟨S1x256x1x64, .f32⟩
  | .hbm, ⟨72, _⟩ => ⟨S2x256x16x64, .f32⟩
  | .hbm, ⟨73, _⟩ => ⟨S2x256x16x64, .f32⟩
  | .hbm, ⟨74, _⟩ => ⟨S1x256x1x64, .f32⟩
  | .hbm, ⟨75, _⟩ => ⟨S2x256x16x64, .f32⟩
  | .hbm, ⟨76, _⟩ => ⟨S2x256x16x64, .f32⟩
  | .hbm, ⟨77, _⟩ => ⟨S2x256x16x64, .f32⟩
  | .hbm, ⟨78, _⟩ => ⟨S2x256x1024, .f32⟩
  | .hbm, ⟨79, _⟩ => ⟨S2x256x16x64, .f32⟩
  | .hbm, ⟨80, _⟩ => ⟨S2x16x256x256, .f32⟩
  | .hbm, ⟨81, _⟩ => ⟨S_, .f32⟩
  | .hbm, ⟨82, _⟩ => ⟨S2x16x256x256, .f32⟩
  | .hbm, ⟨83, _⟩ => ⟨S2x16x256x256, .f32⟩
  | .hbm, ⟨84, _⟩ => ⟨S_, .f32⟩
  | .hbm, ⟨85, _⟩ => ⟨S2x16x256, .f32⟩
  | .hbm, ⟨86, _⟩ => ⟨S2x16x256x1, .f32⟩
  | .hbm, ⟨87, _⟩ => ⟨S2x16x256x256, .f32⟩
  | .hbm, ⟨88, _⟩ => ⟨S2x16x256x256, .f32⟩
  | .hbm, ⟨89, _⟩ => ⟨S2x16x256x256, .f32⟩
  | .hbm, ⟨90, _⟩ => ⟨S_, .f32⟩
  | .hbm, ⟨91, _⟩ => ⟨S2x16x256, .f32⟩
  | .hbm, ⟨92, _⟩ => ⟨S2x16x256x1, .f32⟩
  | .hbm, ⟨93, _⟩ => ⟨S2x16x256x256, .f32⟩
  | .hbm, ⟨94, _⟩ => ⟨S2x16x256x256, .f32⟩
  | .hbm, ⟨95, _⟩ => ⟨S2x16x64x256, .f32⟩
  | .hbm, ⟨96, _⟩ => ⟨S2x256x16x64, .f32⟩
  | .hbm, ⟨97, _⟩ => ⟨S2x256x1024, .f32⟩
  | .hbm, ⟨98, _⟩ => ⟨S2x256x768, .f32⟩
  | _, _ => ⟨S2x256x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_3 : Ref sig .tc := ⟨.hbm, 81, rfl⟩
abbrev main_v71 : Ref sig .tc := ⟨.hbm, 82, rfl⟩
abbrev main_v72 : Ref sig .tc := ⟨.hbm, 83, rfl⟩
abbrev main_cst_4 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_5 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩

abbrev nD : Nat := 1
abbrev τ : Topo := Topo.v7x

variable {F : FTy → Type} [FloatOps F]
-- ==== Proof.Sched.lean ====
/- The protocol between the four devices: the semaphores used, who pays which of them with what, and in which order
   the devices wait. One round on every semaphore. -/
module

public import proofs.«01_k».proof.Proof.Gen.KernelIdeal.Skeleton
public import proofs.«01_k».proof.Proof.Gen.KernelIdeal.Frame
public import Idealize.ShloMosaic.Lib.MemrefSat

@[expose] public section

noncomputable section

namespace Cert.Rope

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type}

/-- The user algebra: the pipeline's own rounds and the protocol's, whose duties are named by the paying device. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Memrefs -/

abbrev mCtx : Memref sig .tc .vmem S2x256x256 .bf16 := Memref.whole cc0_scratch0
abbrev mSb : Memref sig .tc .vmem S4x128x768 .bf16 := Memref.whole cc0_scratch1
abbrev mAs : Memref sig .tc .vmem S128x768 .bf16 := Memref.whole cc0_scratch2
abbrev mRs : Memref sig .tc .vmem S4x128x768 .bf16 := Memref.whole cc0_scratch3
abbrev mAg : Memref sig .tc .vmem S4x128x768 .bf16 := Memref.whole cc0_scratch4

/-- Slot `j` of a four-slot buffer lies inside it. -/
theorem slot_inb (j : Fin 4) : ∀ a, (![j.val, 0, 0] : Fin 3 → Nat) a + S1x128x768.size a ≤ S4x128x768.size a := by
  revert j; decide

/-- The rectangle of a slot of a four-slot buffer, at given offsets. -/
abbrev slotR (off : Fin 3 → Nat) (h : ∀ a, off a + S1x128x768.size a ≤ S4x128x768.size a) : Rect S4x128x768 :=
  Rect.unit (s := S4x128x768) off S1x128x768.size h

/-- A slot of a four-slot buffer as a 128 by 768 block, at given offsets. -/
abbrev slotM (M : Memref sig .tc .vmem S4x128x768 .bf16) (off : Fin 3 → Nat)
    (h : ∀ a, off a + S1x128x768.size a ≤ S4x128x768.size a) : Memref sig .tc .vmem S128x768 .bf16 :=
  (M.slice (slotR off h) (fun _ => rfl)).squeeze S128x768 squeezes_S1x128x768_S128x768

/-- Slot `j`. -/
abbrev slot (M : Memref sig .tc .vmem S4x128x768 .bf16) (j : Fin 4) : Memref sig .tc .vmem S128x768 .bf16 :=
  slotM M ![j.val, 0, 0] (slot_inb j)

/-! ## Cells -/

/-- The `j`-th DMA semaphore of kind `k`: 0 the chunks' send counters, 1 the chunks' receive counters, 2 the results' send
    counters, 3 the results' receive counters. -/
def ds (k j : Fin 4) : DmaSem sig := ⟨11 + 4 * k.val + j.val, by have := k.isLt; have := j.isLt; show _ < 27; omega⟩

abbrev barCell (c : Dev nD) : GSem nD τ sig := ((c : Thread nD τ), .reg barrier0)
abbrev cell (c : Dev nD) (k j : Fin 4) : GSem nD τ sig := ((c : Thread nD τ), .dma (ds k j))

/-- What a semaphore is for: `none` if it is not the protocol's, `some none` the barrier, `some (some (k, j))` the `j`-th of
    kind `k`. -/
def kindOf : SemLoc sig → Option (Option (Fin 4 × Fin 4))
  | .reg _ => some none
  | .dma s => if 11 ≤ s.val then some (some (⟨(s.val - 11) / 4 % 4, Nat.mod_lt _ (by decide)⟩, ⟨(s.val - 11) % 4, Nat.mod_lt _ (by decide)⟩)) else none

theorem kindOf_ds (k j : Fin 4) : kindOf (.dma (ds k j)) = some (some (k, j)) := by revert k j; decide

/-- The credit of one 128 by 768 copy. -/
abbrev N : ℕ := (mAs : Memref sig .tc .vmem S128x768 .bf16).view.dmaCredit
theorem N_pos : 0 < N := View.dmaCredit_pos _ (by decide)

/-- The share of the source the copy to device `t` takes: a quarter. -/
def quarter : Fin 4 → PosShare TreeShare
  | 0 => fullShare.left.left
  | 1 => fullShare.left.right
  | 2 => fullShare.right.left
  | 3 => fullShare.right.right

/-- A block owned at contents not chosen. -/
def anyAt (c : Dev nD) (M : Memref sig .tc .vmem S128x768 .bf16) : sProp 𝕄 :=
  iprop(∃ X, owns (c : Thread nD τ) M fullShare X)

instance anyAt_storable (c : Dev nD) (M : Memref sig .tc .vmem S128x768 .bf16) :
    BI.Storable (upEmb : UEmb _ 𝕄) (anyAt (F := F) c M) := by unfold anyAt; infer_instance

section Rd

variable (P : Dev nD → Dev nD → S128x768.Idx → Elt F .bf16) (R : Dev nD → S128x768.Idx → Elt F .bf16)

/-- What device `p` hands device `c` through `c`'s barrier: `p`'s slots for `c`'s chunk and for `c`'s result, and that `p`'s
    counters for them are open. -/
def barPay (p c : Dev nD) : sProp 𝕄 :=
  iprop(anyAt p (slot mRs c) ∗ anyAt p (slot mAg c) ∗ reached ER (cell p 1 c) 0 ∗ reached ER (cell p 3 c) 0)

/-- What is paid to device `c`'s `j`-th counter of kind `k`: the source of a chunk copy back; the landed chunk `P j c`; a
    quarter of the source of a result copy back; the landed result `R j`. -/
def dmaPay (c : Dev nD) (k j : Fin 4) : sProp 𝕄 :=
  if k = 0 then anyAt c (slot mSb j)
  else if k = 1 then owns (c : Thread nD τ) (slot mRs j) fullShare (P j c)
  else if k = 2 then owns (c : Thread nD τ) mAs (quarter j) (R c)
  else owns (c : Thread nD τ) (slot mAg j) fullShare (R j)

def payOf (c d : Dev nD) : Option (Option (Fin 4 × Fin 4)) → sProp 𝕄
  | none => iprop(emp)
  | some none => barPay d c
  | some (some (k, j)) => dmaPay P R c k j

/-- Who pays: the barrier every other device; a send counter the device itself; a receive counter the device it is for. -/
def dutiesOf (c : Dev nD) : Option (Option (Fin 4 × Fin 4)) → Finset (Dev nD)
  | none => ∅
  | some none => Finset.univ.erase c
  | some (some (k, j)) => if k = 0 ∨ k = 2 then {c} else {j}

def amountOf : Option (Option (Fin 4 × Fin 4)) → ℕ
  | some (some _) => N
  | _ => 1

/-- The schedule: one round on each of the protocol's semaphores. -/
def sched : Rounds.Schedule (GSem nD τ sig) (Dev nD) 𝕄 where
  duties g r := if r = 0 ∧ g.1.2 = .tc then dutiesOf g.1.1 (kindOf g.2) else ∅
  unitless _ := False
  amount g _ _ := amountOf (kindOf g.2)
  payload g _ d := payOf P R g.1.1 d (kindOf g.2)
  amount_pos g _ _ _ := by
    show 0 < amountOf (kindOf g.2)
    unfold amountOf
    split
    · exact N_pos
    · exact Nat.one_pos

instance sched_storable (g : GSem nD τ sig) (r : ℕ) (d : Dev nD) :
    BI.Storable (upEmb : UEmb _ 𝕄) ((sched P R).payload g r d) := by
  show BI.Storable upEmb (payOf P R g.1.1 d (kindOf g.2))
  unfold payOf barPay dmaPay
  (repeat' split) <;> infer_instance

section Tables

variable (c : Dev nD) (k j : Fin 4)

theorem duties_bar : (sched P R).duties (barCell c) 0 = Finset.univ.erase c := by dsimp only [sched]; exact if_pos ⟨rfl, rfl⟩
theorem duties_dma : (sched P R).duties (cell c k j) 0 = if k = 0 ∨ k = 2 then {c} else {j} := by
  dsimp only [sched]; rw [if_pos ⟨rfl, rfl⟩, kindOf_ds]; rfl
theorem duties_later (g : GSem nD τ sig) : ∀ r, 1 ≤ r → (sched P R).duties g r = ∅ :=
  fun r hr => by dsimp only [sched]; rw [if_neg (fun h => by omega)]
theorem amount_bar (d : Dev nD) : (sched P R).amount (barCell c) 0 d = 1 := rfl
theorem amount_dma (d : Dev nD) : (sched P R).amount (cell c k j) 0 d = N := by
  dsimp only [sched]; rw [kindOf_ds]; rfl
theorem expect_bar : (sched P R).expect (barCell c) 0 = 3 := by
  unfold Schedule.expect Schedule.amountOf
  rw [duties_bar, Finset.sum_congr rfl fun d _ => amount_bar P R c d]
  simp
theorem expect_dma : (sched P R).expect (cell c k j) 0 = N := by
  unfold Schedule.expect Schedule.amountOf
  rw [duties_dma]; split <;> rw [Finset.sum_singleton, amount_dma]
theorem payload_bar (d : Dev nD) : (sched P R).payload (barCell c) 0 d = barPay d c := rfl
theorem payload_dma (d : Dev nD) : (sched P R).payload (cell c k j) 0 d = dmaPay P R c k j := by
  dsimp only [sched]; rw [kindOf_ds]; rfl
theorem rest_bar : bigSep ((sched P R).duties (barCell c) 0 \ ∅) (fun d => (sched P R).payload (barCell c) 0 d)
    = bigSep (Finset.univ.erase c) (fun d => barPay (F := F) d c) := by
  rw [Finset.sdiff_empty, duties_bar]; rfl
theorem rest_dma : bigSep ((sched P R).duties (cell c k j) 0 \ ∅) (fun d => (sched P R).payload (cell c k j) 0 d)
    = dmaPay P R c k j := by
  rw [Finset.sdiff_empty, duties_dma]; split <;> rw [bigSep_singleton, payload_dma]

end Tables

end Rd

/-! ## What each device owes; the levels -/

/-- Device `c` going `n` further round the ring. -/
def nx (c : Dev nD) (n : ℕ) : Dev nD := ⟨(c.val + n) % 4, Nat.mod_lt _ (by decide)⟩

abbrev tAg (c t : Dev nD) : CellTallies nD τ sig Unit := tallyAt (cell t 3 c) () N
abbrev tRs (c t : Dev nD) : CellTallies nD τ sig Unit := tallyAt (cell t 1 c) () N
abbrev tBar (t : Dev nD) : CellTallies nD τ sig Unit := tallyAt (barCell t) () 1

/-- What is still owed before each of the eleven payments, the last first. -/
def oA3 (c : Dev nD) : CellTallies nD τ sig Unit := 0 + tAg c 3
def oA2 (c : Dev nD) : CellTallies nD τ sig Unit := oA3 c + tAg c 2
def oA1 (c : Dev nD) : CellTallies nD τ sig Unit := oA2 c + tAg c 1
def oA0 (c : Dev nD) : CellTallies nD τ sig Unit := oA1 c + tAg c 0
def oR3 (c : Dev nD) : CellTallies nD τ sig Unit := oA0 c + tRs c 3
def oR2 (c : Dev nD) : CellTallies nD τ sig Unit := oR3 c + tRs c 2
def oR1 (c : Dev nD) : CellTallies nD τ sig Unit := oR2 c + tRs c 1
def oR0 (c : Dev nD) : CellTallies nD τ sig Unit := oR1 c + tRs c 0
def oB3 (c : Dev nD) : CellTallies nD τ sig Unit := oR0 c + tBar (nx c 3)
def oB2 (c : Dev nD) : CellTallies nD τ sig Unit := oB3 c + tBar (nx c 2)
/-- What a device owes at launch: a unit to each other device's barrier, a chunk to every device, its result to every device. -/
def O₀ (c : Dev nD) : CellTallies nD τ sig Unit := oB2 c + tBar (nx c 1)

def L (g : GSem nD τ sig) : Finset Unit := if g.1.2 = .tc then {()} else ∅
/-- The barrier at 1, the chunks' receive counters at 2, the results' at 3, the rest at 0. -/
def lvOf : Option (Option (Fin 4 × Fin 4)) → ℕ
  | none => 0
  | some none => 1
  | some (some (k, _)) => if k = 1 then 2 else if k = 3 then 3 else 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_dma (c : Dev nD) (k j : Fin 4) (u : Unit) : lv (cell c k j) u = if k = 1 then 2 else if k = 3 then 3 else 0 := by
  unfold lv; rw [kindOf_ds]; rfl

/-- Everything owed is on TensorCores and above a level. -/
def Above (n : ℕ) (O : CellTallies nD τ sig Unit) : Prop := ∀ g u, 0 < O g u → g.1.2 = .tc ∧ n < lv g u

theorem above_zero (n : ℕ) : Above n 0 := fun _ _ h => absurd h (Nat.lt_irrefl 0)
theorem above_add {n : ℕ} {O O' : CellTallies nD τ sig Unit} (h : Above n O) (h' : Above n O') : Above n (O + O') := by
  intro g u hg
  have hg' : 0 < O g u + O' g u := hg
  rcases Nat.eq_zero_or_pos (O g u) with h0 | h0
  · exact h' g u (by omega)
  · exact h g u h0
theorem above_tally {n : ℕ} (c : Dev nD) (sm : SemLoc sig) (v : ℕ) (h : n < lv ((c : Thread nD τ), sm) ()) :
    Above n (tallyAt ((c : Thread nD τ), sm) () v) := by
  intro g u hg
  rw [tallyAt_apply] at hg
  by_cases h' : g = ((c : Thread nD τ), sm) ∧ u = ()
  · rw [h'.1]; exact ⟨rfl, h⟩
  · rw [if_neg h'] at hg; exact absurd hg (Nat.lt_irrefl 0)

theorem above_tAg {n : ℕ} (hn : n < 3) (c t : Dev nD) : Above n (tAg c t) := above_tally t _ _ (by rw [lv_dma]; exact hn)
theorem above_tRs {n : ℕ} (hn : n < 2) (c t : Dev nD) : Above n (tRs c t) := above_tally t _ _ (by rw [lv_dma]; exact hn)
theorem above_tBar {n : ℕ} (hn : n < 1) (t : Dev nD) : Above n (tBar t) := above_tally t _ _ hn

theorem above_oA0 {n : ℕ} (hn : n < 3) (c : Dev nD) : Above n (oA0 c) := by
  unfold oA0 oA1 oA2 oA3
  exact above_add (above_add (above_add (above_add (above_zero n) (above_tAg hn c 3)) (above_tAg hn c 2)) (above_tAg hn c 1)) (above_tAg hn c 0)
theorem above_oR0 {n : ℕ} (hn : n < 2) (c : Dev nD) : Above n (oR0 c) := by
  unfold oR0 oR1 oR2 oR3
  exact above_add (above_add (above_add (above_add (above_oA0 (by omega) c) (above_tRs hn c 3)) (above_tRs hn c 2)) (above_tRs hn c 1)) (above_tRs hn c 0)
theorem above_O₀ (c : Dev nD) : Above 0 (O₀ c) := by
  unfold O₀ oB2 oB3
  exact above_add (above_add (above_add (above_oR0 (by omega) c) (above_tBar (by omega) _)) (above_tBar (by omega) _)) (above_tBar (by omega) _)

/-- A wait on a semaphore below everything owed is allowed. -/
theorem mayWait_of (c : Dev nD) (sm : SemLoc sig) {n : ℕ} (hl : lv ((c : Thread nD τ), sm) () ≤ n)
    {O : CellTallies nD τ sig Unit} (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      unfold L; rw [if_pos (h g u hg).1]; exact Finset.mem_singleton_self _)
    (fun p hp => by rw [Finset.mem_singleton.mp hp]; exact hl)
    (fun g u hg => (h g u hg).2)

end Cert.Rope

end
-- ==== Proof.Vals.lean ====
/- What the kernel computes from its blocks, over any float values: the rotated projections, the attention pieces, the four
   chunks a device hands out, the summed chunk it hands back, and the assembled result. -/
module

public import proofs.«01_k».proof.Proof.Gen.KernelIdeal.Skeleton
public import Idealize.ShloMosaic.Lib.ValueIdxCore

@[expose] public section

noncomputable section

namespace Cert.Rope

open Cert.KernelIdeal Cert.KernelIdeal.Gen
open Idealize.ShloMosaic Idealize.ShloMosaic.ValueIdx

variable {F : FTy → Type} [FloatOps F]

/-- The blocks one device's kernel reads. -/
structure Ins (F : FTy → Type) where
  x : Vec F S2x256x768 .bf16
  wq : Vec F S768x256 .bf16
  wk : Vec F S768x256 .bf16
  wv : Vec F S768x256 .bf16
  wo : Vec F S256x768 .bf16
  cq : Vec F S512x256 .bf16
  sq : Vec F S512x256 .bf16
  ck : Vec F S512x256 .bf16
  sk : Vec F S512x256 .bf16
  r : Vec F S256x256 .bf16

namespace Ins

variable (I : Ins F)

/-- The rotated, scaled queries; the rotated keys; the values; the output weights. -/
abbrev q : FVec F S512x256 .bf16 := k0_pay7 (k0_pay1 I.wq) I.x I.cq I.r I.sq
abbrev k : FVec F S512x256 .bf16 := k0_pay8 (k0_pay2 I.wk) I.x I.ck I.r I.sk
abbrev v : FVec F S512x256 .bf16 := k0_pay6 (k0_pay3 I.wv) I.x
abbrev w : FVec F S256x768 .bf16 := k0_pay4 I.wo

/-- The attention output of batch `n / 4` and head `n % 4` of the device's four. -/
def piece : ℕ → Vec F S1x256x64 .bf16
  | 0 => k0_pay13 (k0_pay10 (k0_pay1 I.wq) (k0_pay2 I.wk) I.x I.cq I.r I.sq I.ck I.r I.sk)
      (k0_pay11 (k0_pay1 I.wq) (k0_pay2 I.wk) I.x I.cq I.r I.sq I.ck I.r I.sk) (k0_pay12 (k0_pay3 I.wv) I.x)
  | 1 => k0_pay14 I.v I.q I.k
  | 2 => k0_pay16 (k0_pay15 I.v I.q I.k)
  | 3 => k0_pay17 I.v I.q I.k
  | 4 => k0_pay21 (k0_pay20 I.v I.q I.k)
  | 5 => k0_pay22 I.v I.q I.k
  | 6 => k0_pay23 I.v I.q I.k
  | _ => k0_pay26 I.v (k0_pay24 I.q I.k) (k0_pay25 I.q I.k)

/-- All heads side by side: column `j` of batch `b` is column `j % 64` of head `j / 64`. -/
def ctx : Vec F S2x256x256 .bf16 := fun i =>
  I.piece (4 * (i 0).val + (i 2).val / 64) (ix3 (0 : Fin 1) (i 1 : Fin 256) (⟨(i 2).val % 64, Nat.mod_lt _ (by decide)⟩ : Fin 64))

/-- Rows `128 h ..` of batch `b` of it. -/
def half (b : Fin 2) (h : Fin 2) : Vec F S1x128x256 .bf16 := fun j =>
  I.ctx (ix3 b (⟨128 * h.val + (j 1).val, by
    have h1 : (j 1).val < 128 := (j 1).isLt
    have := h.isLt
    omega⟩ : Fin 256) (j 2 : Fin 256))

/-- The device's share of chunk `j`: those rows times the output weights. -/
def slab : Fin 4 → Vec F S1x128x768 .bf16
  | 0 => k0_pay18 I.w (I.half 0 0)
  | 1 => k0_pay19 I.w (I.half 0 1)
  | 2 => k0_pay27 I.w (I.half 1 0)
  | 3 => k0_pay29 (k0_pay28 I.w (I.half 1 1))

end Ins

/-- A one-row stack of a block as the block, and back. -/
abbrev sq {e : EltTy} (x : Vec F S1x128x768 e) : Vec F S128x768 e := shapeCast S128x768 x shapeCasts_S1x128x768_S128x768
abbrev un {e : EltTy} (x : Vec F S128x768 e) : Vec F S1x128x768 e := shapeCast S1x128x768 x shapeCasts_S128x768_S1x128x768

theorem un_sq {e : EltTy} (x : Vec F S1x128x768 e) : un (sq x) = x := by
  funext j
  show x (Shape.reshapeEquiv _ (Shape.reshapeEquiv _ j)) = x j
  rw [Shape.reshapeEquiv_reshapeEquiv, Shape.reshapeEquiv_self]

theorem eq_un {e : EltTy} {x : Vec F S1x128x768 e} {y : Vec F S128x768 e} (h : sq x = y) : x = un y := by
  rw [← h, un_sq]

variable (I : Dev nD → Ins F)

/-- Device `p`'s share of chunk `j`, as it is sent. -/
def part (p j : Dev nD) : Vec F S128x768 .bf16 := sq ((I p).slab j)

/-- Chunk `j` summed over the devices in order. -/
def summed (j : Dev nD) : Vec F S128x768 .bf16 :=
  k0_pay31 (k0_pay30 (un (part I 0 j)) (un (part I 1 j))) (un (part I 2 j)) (un (part I 3 j))

/-- Chunk `j` of the result. -/
def outSlab (j : Dev nD) : Vec F S1x128x768 .f32 := k0_pay32 (un (summed I j))

/-- The result: rows `128 h ..` of batch `b` are chunk `2 b + h`. -/
def out : Vec F S2x256x768 .f32 := fun i =>
  outSlab I (⟨2 * (i 0).val + (i 1).val / 128, by
    have h0 : (i 0).val < 2 := (i 0).isLt
    have h1 : (i 1).val < 256 := (i 1).isLt
    show _ < 4; omega⟩ : Fin 4) (ix3 (0 : Fin 1) (⟨(i 1).val % 128, Nat.mod_lt _ (by decide)⟩ : Fin 128) (i 2 : Fin 768))

end Cert.Rope

end
-- ==== Proof.Steps.lean ====
/- The single steps of a device's kernel under the protocol: slots read and written, a chunk sent, a result sent, a
   semaphore waited for; and a buffer filled piece by piece with a known content. -/
module

public import proofs.«01_k».proof.Proof.Sched
public import proofs.«01_k».proof.Proof.Vals

@[expose] public section

noncomputable section

namespace Cert.Rope

open Cert.KernelIdeal Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

abbrev 𝒱₀ : Variants := Variants.none

/-- Device `c` runs `p` to `Q`. -/
abbrev wpp [FloatOps F] (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The printed indices -/

theorem off1_eq (c : Dev nD) : k0_off1 c = ![c.val] := by revert c; decide
theorem off2_eq (c : Dev nD) : k0_off2 c = ![c.val, 0, 0] := by revert c; decide
theorem dev1_eq (c : Dev nD) : (⟨k0_dev1 c, k0_dev1_lt c⟩ : Dev nD) = nx c 1 := by revert c; decide
theorem dev2_eq (c : Dev nD) : (⟨k0_dev2 c, k0_dev2_lt c⟩ : Dev nD) = nx c 2 := by revert c; decide
theorem dev3_eq (c : Dev nD) : (⟨k0_dev3 c, k0_dev3_lt c⟩ : Dev nD) = nx c 3 := by revert c; decide

theorem inb_S4_1 (j : Fin 4) : ∀ a, (![j.val] : Fin 1 → Nat) a + S1.size a ≤ S4.size a := by revert j; decide

/-- The semaphore at place `j` of each of the four arrays. -/
theorem sem_eq0 (j : Fin 4) : ((cc0_scratch5.slice (Rect.unit (s := S4) ![j.val] S1.size (inb_S4_1 j))).squeeze S_ squeezes_S1_S_).sem = ds 0 j := by
  revert j; decide
theorem sem_eq1 (j : Fin 4) : ((cc0_scratch6.slice (Rect.unit (s := S4) ![j.val] S1.size (inb_S4_1 j))).squeeze S_ squeezes_S1_S_).sem = ds 1 j := by
  revert j; decide
theorem sem_eq2 (j : Fin 4) : ((cc0_scratch7.slice (Rect.unit (s := S4) ![j.val] S1.size (inb_S4_1 j))).squeeze S_ squeezes_S1_S_).sem = ds 2 j := by
  revert j; decide
theorem sem_eq3 (j : Fin 4) : ((cc0_scratch8.slice (Rect.unit (s := S4) ![j.val] S1.size (inb_S4_1 j))).squeeze S_ squeezes_S1_S_).sem = ds 3 j := by
  revert j; decide

theorem sem_off1 (c : Dev nD) : ((cc0_scratch6.slice (Rect.unit (s := S4) (k0_off1 c) S1.size (k0_off1_inb c))).squeeze S_ squeezes_S1_S_).sem = ds 1 c := by
  revert c; decide
theorem sem_off1' (c : Dev nD) : ((cc0_scratch8.slice (Rect.unit (s := S4) (k0_off1 c) S1.size (k0_off1_inb c))).squeeze S_ squeezes_S1_S_).sem = ds 3 c := by
  revert c; decide

/-! ## Slots -/

section Slots

variable (M : Memref sig .tc .vmem S4x128x768 .bf16) (off : Fin 3 → Nat)
  (h : ∀ a, off a + S1x128x768.size a ≤ S4x128x768.size a)

theorem slotM_set : (slotM M off h).view.set = (M.access (slotR off h)).set := View.set_reshape _ _

theorem slotM_read (f : (M.access (slotR off h)).ty.Contents (Elt F)) :
    (slotM M off h).view.read (Elt F) f = sq ((M.access (slotR off h)).read (Elt F) f) := rfl

variable [FloatOps F]

/-- A slot read: what it holds, as a one-row stack. -/
theorem step_load_slot (c : Dev nD) {α : Type} {q : PosShare TreeShare} (X : S128x768.Idx → Elt F .bf16)
    {hl : M.view.LoadsAt (slotR off h).toLoadRect} {k : Vec F S1x128x768 .bf16 → Prog (TpuEff nD τ sig (Elt F) Λ₀ .tc) α} {Q : α → sProp 𝕄} :
    owns (c : Thread nD τ) (slotM M off h) q X
      ⊢ iprop((owns (c : Thread nD τ) (slotM M off h) q X -∗ wpp c (k (un X)) Q)
        -∗ wpp c (.op (.load M (slotR off h).toLoadRect hl) k) Q) := by
  unfold owns
  iintro ⟨%f, %hf, Hp⟩ Hk
  iapply (wp_load_rect 𝒱₀ (c : Thread nD τ) none Set.univ (m := M) (r := slotR off h) (hl := hl) (q := q) (f := f)
    (S := (slotM M off h).view.set) (by rw [slotM_set])) $$ [Hp]
  · iexact Hp
  iintro Hp
  rw [show (M.access (slotR off h)).read (Elt F) f = un X from eq_un hf]
  iapply Hk
  iexists f
  isplitr
  · ipureintro; exact hf
  iexact Hp

/-- A slot of any content read. -/
theorem step_load_any (c : Dev nD) {α : Type}
    {hl : M.view.LoadsAt (slotR off h).toLoadRect} {k : Vec F S1x128x768 .bf16 → Prog (TpuEff nD τ sig (Elt F) Λ₀ .tc) α} {Q : α → sProp 𝕄} :
    anyAt c (slotM M off h)
      ⊢ iprop((∀ X, anyAt c (slotM M off h) -∗ wpp c (k X) Q)
        -∗ wpp c (.op (.load M (slotR off h).toLoadRect hl) k) Q) := by
  unfold anyAt
  iintro ⟨%X, Hp⟩ Hk
  iapply (step_load_slot M off h c X) $$ Hp
  iintro Hp
  iapply Hk
  iexists X
  iexact Hp

/-- A slot written. -/
theorem step_store_slot (c : Dev nD) {α : Type} (w : Vec F S1x128x768 .bf16)
    {hx : (M.access (slotR off h)).Stores Finset.univ} {hm}
    {k : PUnit → Prog (TpuEff nD τ sig (Elt F) Λ₀ .tc) α} {Q : α → sProp 𝕄} :
    anyAt c (slotM M off h)
      ⊢ iprop((owns (c : Thread nD τ) (slotM M off h) fullShare (sq w) -∗ wpp c (k ⟨⟩) Q)
        -∗ wpp c (.op (.store M (slotR off h) w Finset.univ hx hm) k) Q) := by
  unfold anyAt owns
  iintro ⟨%X, %f, -, Hp⟩ Hk
  iapply (wp_store 𝒱₀ (c : Thread nD τ) none Set.univ (m := M) (r := slotR off h) (w := w) (Mk := Finset.univ) (hx := hx) (hm := hm) (f := f)
    (S := (slotM M off h).view.set) (by rw [slotM_set]; exact Finset.Subset.refl _)) $$ [Hp]
  · iexact Hp
  iintro Hp
  iapply Hk
  iexists ((M.access (slotR off h)).write (Elt F) f w Finset.univ)
  isplitr
  · ipureintro
    exact (slotM_read M off h _).trans (congrArg sq (View.read_write_univ _ _))
  iexact Hp

/-- The same three, the slot named by its number. -/
theorem step_load_slot' (c : Dev nD) (j : Fin 4) (e : off = ![j.val, 0, 0]) {α : Type} {q : PosShare TreeShare} (X : S128x768.Idx → Elt F .bf16)
    {hl : M.view.LoadsAt (slotR off h).toLoadRect} {k : Vec F S1x128x768 .bf16 → Prog (TpuEff nD τ sig (Elt F) Λ₀ .tc) α} {Q : α → sProp 𝕄} :
    owns (c : Thread nD τ) (slot M j) q X
      ⊢ iprop((owns (c : Thread nD τ) (slot M j) q X -∗ wpp c (k (un X)) Q)
        -∗ wpp c (.op (.load M (slotR off h).toLoadRect hl) k) Q) := by
  subst e; exact step_load_slot M _ h c X
theorem step_load_any' (c : Dev nD) (j : Fin 4) (e : off = ![j.val, 0, 0]) {α : Type}
    {hl : M.view.LoadsAt (slotR off h).toLoadRect} {k : Vec F S1x128x768 .bf16 → Prog (TpuEff nD τ sig (Elt F) Λ₀ .tc) α} {Q : α → sProp 𝕄} :
    anyAt c (slot M j)
      ⊢ iprop((∀ X, anyAt c (slot M j) -∗ wpp c (k X) Q)
        -∗ wpp c (.op (.load M (slotR off h).toLoadRect hl) k) Q) := by
  subst e; exact step_load_any M _ h c
theorem step_store_slot' (c : Dev nD) (j : Fin 4) (e : off = ![j.val, 0, 0]) {α : Type} (w : Vec F S1x128x768 .bf16)
    {hx : (M.access (slotR off h)).Stores Finset.univ} {hm}
    {k : PUnit → Prog (TpuEff nD τ sig (Elt F) Λ₀ .tc) α} {Q : α → sProp 𝕄} :
    anyAt c (slot M j)
      ⊢ iprop((owns (c : Thread nD τ) (slot M j) fullShare (sq w) -∗ wpp c (k ⟨⟩) Q)
        -∗ wpp c (.op (.store M (slotR off h) w Finset.univ hx hm) k) Q) := by
  subst e; exact step_store_slot M _ h c w

end Slots

/-! ## The protocol's steps -/

/-- A semaphore of the protocol: a device's barrier or one of its sixteen. -/
def gOf (p : Dev nD × Option (Fin 4 × Fin 4)) : GSem nD τ sig :=
  match p.2 with
  | none => barCell p.1
  | some (k, j) => cell p.1 k j

variable (P : Dev nD → Dev nD → S128x768.Idx → Elt F .bf16) (R : Dev nD → S128x768.Idx → Elt F .bf16)

/-- Every device's every semaphore of the protocol, under the names `K`. -/
def invs (K : GSem nD τ sig → ℕ) : sProp 𝕄 :=
  bigSep Finset.univ fun p : Dev nD × Option (Fin 4 × Fin 4) => cellInv ER (sched P R) (K (gOf p)) (gOf p)

instance invs_persistent (K : GSem nD τ sig → ℕ) : BI.Persistent (invs P R K) := by unfold invs; infer_instance

theorem inv_bar (K : GSem nD τ sig → ℕ) (c : Dev nD) : invs P R K ⊢ cellInv ER (sched P R) (K (barCell c)) (barCell c) :=
  bigSep_elim (Φ := fun p : Dev nD × Option (Fin 4 × Fin 4) => cellInv ER (sched P R) (K (gOf p)) (gOf p)) (Finset.mem_univ (c, none))
theorem inv_dma (K : GSem nD τ sig → ℕ) (c : Dev nD) (k j : Fin 4) : invs P R K ⊢ cellInv ER (sched P R) (K (cell c k j)) (cell c k j) :=
  bigSep_elim (Φ := fun p : Dev nD × Option (Fin 4 × Fin 4) => cellInv ER (sched P R) (K (gOf p)) (gOf p)) (Finset.mem_univ (c, some (k, j)))

/-- What device `c` owes, whatever it has waited for. -/
def owing (c : Dev nD) (O : CellTallies nD τ sig Unit) : sProp 𝕄 := iprop(∃ W, owes (c : Thread nD τ) O W)

variable [FloatOps F]

/-- A signal to another device's barrier. -/
theorem step_signal (K : GSem nD τ sig → ℕ) (c d : Dev nD) (hd : c ≠ d) (O : CellTallies nD τ sig Unit) {α : Type}
    {k : PUnit → Prog (TpuEff nD τ sig (Elt F) Λ₀ .tc) α} {Q : α → sProp 𝕄} :
    iprop(invs P R K ∗ owing c (O + tBar d) ∗ dutyTok ER (barCell d) 0 c ∗ barPay c d ∗ reached ER (barCell d) 0)
      ⊢ iprop((owing c O -∗ wpp c (k ⟨⟩) Q) -∗ wpp c (.op (.semSignal (d : Thread nD τ) barrier0 1) k) Q) := by
  unfold owing
  iintro ⟨#HI, ⟨%W, HO⟩, Ht, Hp, Hr⟩ Hk
  iapply (Rounds.wp_signal 𝒱₀ ER (sched P R) (c : Thread nD τ) none (dst := (d : Thread nD τ)) (sem := barrier0) (r := 0) (d := c)
      (κ := K (barCell d)) (by rw [duties_bar]; exact Finset.mem_erase.mpr ⟨hd, Finset.mem_univ _⟩) (amount_bar P R d c) () O rfl)
    $$ [HO Ht Hp Hr]
  · isplitr; · iapply (inv_bar P R K d); iexact HI
    isplitl [HO]; · iexact HO
    isplitl [Ht]; · iexact Ht
    isplitl [Hp]; · rw [payload_bar]; iexact Hp
    iexact Hr
  iintro HO
  iapply Hk
  iexists W
  iexact HO

/-- The wait on the own barrier. -/
theorem step_wait_bar (K : GSem nD τ sig → ℕ) (c : Dev nD) (O : CellTallies nD τ sig Unit) (hO : Above 1 O) {α : Type}
    {k : PUnit → Prog (TpuEff nD τ sig (Elt F) Λ₀ .tc) α} {Q : α → sProp 𝕄} :
    iprop(invs P R K ∗ levAts L lv ∗ cred (tallyAt (barCell c) () 3) ∗ owing c O ∗ atPos ER (barCell c) 0 ∅ 0)
      ⊢ iprop((iprop(owing c O ∗ atPos ER (barCell c) (0 + 1) ∅ 0 ∗ bigSep (Finset.univ.erase c) (fun d => barPay d c)) -∗ wpp c (k ⟨⟩) Q)
        -∗ wpp c (.op (.semWait barrier0 3) k) Q) := by
  unfold owing
  iintro ⟨#HI, #HL, Hc, ⟨%W, HO⟩, Ha⟩ Hk
  iapply (Rounds.wp_wait_rest_token 𝒱₀ ER (sched P R) (c : Thread nD τ) none (κ := K (barCell c))
      (wpE_semWait_eq 𝒱₀ (c : Thread nD τ) none Set.univ) (Set.mem_univ _) () (O := O) (W := W) (R := 0) (m := 0) (T := ∅)
      ((Nat.zero_add 3).trans (expect_bar P R c).symm)) $$ [Hc HO Ha]
  · isplitr; · iapply (inv_bar P R K c); iexact HI
    isplitl [Hc]; · iexact Hc
    isplitl [HO]; · iexact HO
    isplitr; · iapply (mayWait_of c (.reg barrier0) (n := 1) (le_of_eq (lv_bar c ())) hO); iexact HL
    iexact Ha
  iintro ⟨HO, Ha, -, Hp⟩
  iapply Hk
  isplitl [HO]
  · iexists _; iexact HO
  isplitl [Ha]; · iexact Ha
  iapply (Entails.of_eq (rest_bar P R c)); iexact Hp

/-- The wait on the own `j`-th counter of kind `kd`. -/
theorem step_wait (K : GSem nD τ sig → ℕ) (c : Dev nD) (kd j : Fin 4) (O : CellTallies nD τ sig Unit)
    {n : ℕ} (hn : lv (cell c kd j) () ≤ n) (hO : Above n O) {α : Type}
    {sem : DmaSem sig} (hsem : sem = ds kd j) {sp sp' : Space} {κ' : Kind} {s s' : Shape} {e e' : EltTy} {src : Memref sig .tc sp' s' e'} {dst : Memref sig κ' sp s e}
    (hN : dst.view.dmaCredit = N)
    {hsrc : src.view.WordExact} {hdst : dst.view.WordExact}
    {k : PUnit → Prog (TpuEff nD τ sig (Elt F) Λ₀ .tc) α} {Q : α → sProp 𝕄} :
    iprop(invs P R K ∗ levAts L lv ∗ cred (tallyAt (cell c kd j) () N) ∗ owing c O ∗ atPos ER (cell c kd j) 0 ∅ 0)
      ⊢ iprop((iprop(owing c O ∗ atPos ER (cell c kd j) (0 + 1) ∅ 0 ∗ dmaPay P R c kd j) -∗ wpp c (k ⟨⟩) Q)
        -∗ wpp c (.op (.waitDma2 sem src dst hsrc hdst) k) Q) := by
  subst hsem
  unfold owing
  iintro ⟨#HI, #HL, Hc, ⟨%W, HO⟩, Ha⟩ Hk
  iapply (Rounds.wp_wait_rest_token 𝒱₀ ER (sched P R) (c : Thread nD τ) none (κ := K (cell c kd j))
      (wpE_waitDma2_eq (src := src) (dst := dst) 𝒱₀ (c : Thread nD τ) none Set.univ) (Set.mem_univ _) () (O := O) (W := W) (R := 0) (m := 0) (T := ∅)
      ((Nat.zero_add _).trans (hN.trans (expect_dma P R c kd j).symm))) $$ [Hc HO Ha]
  · isplitr; · iapply (inv_dma P R K c kd j); iexact HI
    isplitl [Hc]; · rw [hN]; iexact Hc
    isplitl [HO]; · iexact HO
    isplitr; · iapply (mayWait_of c (.dma (ds kd j)) (n := n) hn hO); iexact HL
    iexact Ha
  iintro ⟨HO, Ha, -, Hp⟩
  iapply Hk
  isplitl [HO]
  · iexists _; iexact HO
  isplitl [Ha]; · iexact Ha
  iapply (Entails.of_eq (rest_dma P R c kd j)); iexact Hp

/-- A chunk copied to the device `d` it is for. -/
theorem step_send_rs (K : GSem nD τ sig → ℕ) (c d : Dev nD) (O : CellTallies nD τ sig Unit) {α : Type}
    {offS offD : Fin 3 → Nat} {hS : ∀ a, offS a + S1x128x768.size a ≤ S4x128x768.size a}
    {hD : ∀ a, offD a + S1x128x768.size a ≤ S4x128x768.size a}
    (eS : offS = ![d.val, 0, 0]) (eD : offD = ![c.val, 0, 0])
    {d' : Dev nD} (ed : d' = d) {sS sR : DmaSem sig} (eSS : sS = ds 0 d) (eSR : sR = ds 1 c)
    {hsc} {hsrc : (slotM mSb offS hS).view.WordExact} {hdst : (slotM mRs offD hD).view.WordExact} {hsem}
    {k : PUnit → Prog (TpuEff nD τ sig (Elt F) Λ₀ .tc) α} {Q : α → sProp 𝕄} :
    iprop(invs P R K ∗ owns (c : Thread nD τ) (slot mSb d) fullShare (P c d) ∗ anyAt d (slot mRs c) ∗ owing c (O + tRs c d)
        ∗ dutyTok ER (cell c 0 d) 0 c ∗ reached ER (cell c 0 d) 0 ∗ dutyTok ER (cell d 1 c) 0 c ∗ reached ER (cell d 1 c) 0)
      ⊢ iprop((iprop(cred (tallyAt (cell c 0 d) () N) ∗ owing c O) -∗ wpp c (k ⟨⟩) Q)
        -∗ wpp c (.op (.enqueueDma (slotM mSb offS hS) (.remote (Dev.tc d') (slotM mRs offD hD) (.dma sS) hsc) (.dma sR) hsrc hdst hsem) k) Q) := by
  subst eS eD ed eSS eSR
  unfold anyAt owns owing
  iintro ⟨#HI, ⟨%fs, %hfs, Hs⟩, ⟨%X, %fd, -, Hd⟩, ⟨%W, HO⟩, Ht1, Hr1, Ht2, Hr2⟩ Hk
  iapply (Rounds.wp_send_pointsTo 𝒱₀ ER (sched P R) (c : Thread nD τ) none (c' := (d' : Thread nD τ)) (src := slot mSb d') (dst := slot mRs c)
      (sS := .dma (ds 0 d')) (sem := .dma (ds 1 c)) (q := fullShare) (fs := fs) (fd := fd) (κ₁ := K (cell c 0 d')) (κ₂ := K (cell d' 1 c))
      (r₁ := 0) (r₂ := 0) (d₁ := c) (d₂ := c)
      (by rw [duties_dma, if_pos (Or.inl rfl)]; exact Finset.mem_singleton_self _)
      (by rw [duties_dma, if_neg (by decide)]; exact Finset.mem_singleton_self _)
      () () N rfl (amount_dma P R c 0 d' c) (amount_dma P R d' 1 c c) O rfl (W := W)
      (by
        rw [payload_dma]; unfold dmaPay; rw [if_pos rfl]; unfold anyAt owns
        iintro H; iexists _; iexists fs; isplitr
        · ipureintro; rfl
        iexact H)
      (by
        rw [payload_dma]; unfold dmaPay; rw [if_neg (by decide), if_pos rfl]; unfold owns
        iintro H; iexists _; isplitr
        rotate_left
        · iexact H
        ipureintro; rw [View.read_write_univ]; exact hfs)) $$ [Hs Hd HO Ht1 Ht2 Hr1 Hr2]
  · isplitr; · iapply (inv_dma P R K c 0 d'); iexact HI
    isplitr; · iapply (inv_dma P R K d' 1 c); iexact HI
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W
  iexact HO

/-- The summed chunk copied to device `t`, a quarter of its source lent. -/
theorem step_send_ag (K : GSem nD τ sig → ℕ) (c t : Dev nD) (O : CellTallies nD τ sig Unit) {α : Type}
    {offD : Fin 3 → Nat} {hD : ∀ a, offD a + S1x128x768.size a ≤ S4x128x768.size a} (eD : offD = ![c.val, 0, 0])
    {d' : Dev nD} (ed : d' = t) {sS sR : DmaSem sig} (eSS : sS = ds 2 t) (eSR : sR = ds 3 c)
    {hsc} {hsrc : mAs.view.WordExact} {hdst : (slotM mAg offD hD).view.WordExact} {hsem}
    {k : PUnit → Prog (TpuEff nD τ sig (Elt F) Λ₀ .tc) α} {Q : α → sProp 𝕄} :
    iprop(invs P R K ∗ owns (c : Thread nD τ) mAs (quarter t) (R c) ∗ anyAt t (slot mAg c) ∗ owing c (O + tAg c t)
        ∗ dutyTok ER (cell c 2 t) 0 c ∗ reached ER (cell c 2 t) 0 ∗ dutyTok ER (cell t 3 c) 0 c ∗ reached ER (cell t 3 c) 0)
      ⊢ iprop((iprop(cred (tallyAt (cell c 2 t) () N) ∗ owing c O) -∗ wpp c (k ⟨⟩) Q)
        -∗ wpp c (.op (.enqueueDma mAs (.remote (Dev.tc d') (slotM mAg offD hD) (.dma sS) hsc) (.dma sR) hsrc hdst hsem) k) Q) := by
  subst eD ed eSS eSR
  unfold anyAt owing
  rw [show owns (c : Thread nD τ) mAs (quarter d') (R c) = iprop(∃ f, ⌜mAs.view.read (Elt F) f = R c⌝
    ∗ mAs.view.loc (c : Thread nD τ) ↦[mAs.view.set]{quarter d'} f) from rfl]
  iintro ⟨#HI, ⟨%fs, %hfs, Hs⟩, ⟨%X, Hd⟩, ⟨%W, HO⟩, Ht1, Hr1, Ht2, Hr2⟩ Hk
  unfold owns
  icases Hd with ⟨%fd, -, Hd⟩
  iapply (Rounds.wp_send_pointsTo 𝒱₀ ER (sched P R) (c : Thread nD τ) none (c' := (d' : Thread nD τ)) (src := mAs) (dst := slot mAg c)
      (sS := .dma (ds 2 d')) (sem := .dma (ds 3 c)) (q := quarter d') (fs := fs) (fd := fd) (κ₁ := K (cell c 2 d')) (κ₂ := K (cell d' 3 c))
      (r₁ := 0) (r₂ := 0) (d₁ := c) (d₂ := c)
      (by rw [duties_dma, if_pos (Or.inr rfl)]; exact Finset.mem_singleton_self _)
      (by rw [duties_dma, if_neg (by decide)]; exact Finset.mem_singleton_self _)
      () () N rfl (amount_dma P R c 2 d' c) (amount_dma P R d' 3 c c) O rfl (W := W)
      (by
        rw [payload_dma]; unfold dmaPay; rw [if_neg (by decide), if_neg (by decide), if_pos rfl]; unfold owns
        iintro H; iexists fs; isplitr
        · ipureintro; exact hfs
        iexact H)
      (by
        rw [payload_dma]; unfold dmaPay; rw [if_neg (by decide), if_neg (by decide), if_neg (by decide)]; unfold owns
        iintro H; iexists _; isplitr
        rotate_left
        · iexact H
        ipureintro; rw [View.read_write_univ]; exact hfs)) $$ [Hs Hd HO Ht1 Ht2 Hr1 Hr2]
  · isplitr; · iapply (inv_dma P R K c 2 d'); iexact HI
    isplitr; · iapply (inv_dma P R K d' 3 c); iexact HI
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W
  iexact HO

/-- A program that has ended. -/
theorem step_ret (c : Dev nD) {α : Type} (a : α) (Q : α → sProp 𝕄) : Q a ⊢ wpp c (Prog.ret a) Q := by
  unfold wpp
  rw [wp_ret]
  iintro H
  imodintro
  iexact H

/-! ## Whole buffers, and buffers filled piece by piece -/

section Fill

variable {sp : CoreSpace} {s : Shape} {e : EltTy} (M : Memref sig .tc sp s e)

/-- A buffer that agrees with `T` where `p` holds. -/
def filled (c : Dev nD) (p : s.Idx → Prop) (T : s.Idx → Elt F e) : sProp 𝕄 :=
  iprop(∃ X, ⌜∀ i, p i → X i = T i⌝ ∗ owns (c : Thread nD τ) M fullShare X)

/-- A rectangle of a buffer read. -/
theorem step_load (c : Dev nD) {α : Type} {q : PosShare TreeShare} (X : s.Idx → Elt F e) (r : Rect s)
    {hl : M.view.LoadsAt r.toLoadRect} {k : (r.shape.Idx → Elt F e) → Prog (TpuEff nD τ sig (Elt F) Λ₀ .tc) α} {Q : α → sProp 𝕄} :
    owns (c : Thread nD τ) M q X
      ⊢ iprop((owns (c : Thread nD τ) M q X -∗ wpp c (k (fun j => X (r.emb j))) Q)
        -∗ wpp c (.op (.load M r.toLoadRect hl) k) Q) := by
  unfold owns
  iintro ⟨%f, %hf, Hp⟩ Hk
  iapply (wp_load_rect 𝒱₀ (c : Thread nD τ) none Set.univ (m := M) (r := r) (hl := hl) (q := q) (f := f)
    (S := M.view.set) (by rw [View.set_slice]; exact View.setOn_subset_set _ _)) $$ [Hp]
  · iexact Hp
  iintro Hp
  subst hf
  iapply Hk
  iexists f
  isplitr
  · ipureintro; rfl
  iexact Hp

theorem emb_zero {off : Fin s.rank → Nat} (h : off = fun _ => 0) (inb : ∀ a, off a + s.size a ≤ s.size a) (j : s.Idx) :
    (Rect.unit (s := s) off s.size inb).emb j = j := by
  subst h
  funext a
  exact Fin.ext (by show 0 + 1 * (j a).val = (j a).val; omega)

/-- A whole buffer read. -/
theorem step_load_whole (c : Dev nD) {α : Type} {q : PosShare TreeShare} (X : s.Idx → Elt F e)
    {off : Fin s.rank → Nat} (h : off = fun _ => 0) {inb : ∀ a, off a + s.size a ≤ s.size a}
    {hl : M.view.LoadsAt (Rect.unit (s := s) off s.size inb).toLoadRect} {k : (s.Idx → Elt F e) → Prog (TpuEff nD τ sig (Elt F) Λ₀ .tc) α} {Q : α → sProp 𝕄} :
    owns (c : Thread nD τ) M q X
      ⊢ iprop((owns (c : Thread nD τ) M q X -∗ wpp c (k X) Q)
        -∗ wpp c (.op (.load M (Rect.unit (s := s) off s.size inb).toLoadRect hl) k) Q) := by
  iintro Hp Hk
  iapply (step_load M c X (Rect.unit (s := s) off s.size inb)) $$ Hp
  iintro Hp
  rw [show (fun j => X ((Rect.unit (s := s) off s.size inb).emb j)) = X from funext fun j => congrArg X (emb_zero h inb j)]
  iapply Hk
  iexact Hp

/-- A rectangle of a buffer written: the buffer's content after. -/
theorem step_store (c : Dev nD) {α : Type} (X : s.Idx → Elt F e) (r : Rect s) (w : r.shape.Idx → Elt F e)
    {hx : (M.access r).Stores Finset.univ} {hm}
    {k : PUnit → Prog (TpuEff nD τ sig (Elt F) Λ₀ .tc) α} {Q : α → sProp 𝕄} :
    owns (c : Thread nD τ) M fullShare X
      ⊢ iprop((∀ Y, ⌜(∀ j, Y (r.emb j) = w j) ∧ ∀ i, (∀ j, r.emb j ≠ i) → Y i = X i⌝
          -∗ owns (c : Thread nD τ) M fullShare Y -∗ wpp c (k ⟨⟩) Q)
        -∗ wpp c (.op (.store M r w Finset.univ hx hm) k) Q) := by
  unfold owns
  iintro ⟨%f, %hf, Hp⟩ Hk
  iapply (wp_store 𝒱₀ (c : Thread nD τ) none Set.univ (m := M) (r := r) (w := w) (Mk := Finset.univ) (hx := hx) (hm := hm) (f := f)
    (S := M.view.set) (by rw [show (M.access r).setOn Finset.univ = (M.access r).set from rfl, View.set_slice]; exact View.setOn_subset_set _ _)) $$ [Hp]
  · iexact Hp
  iintro Hp
  subst hf
  iapply Hk $$ %(M.view.read (Elt F) ((M.access r).write (Elt F) f w Finset.univ))
  · ipureintro
    refine ⟨fun j => congrFun (View.read_write_univ (v := M.access r) f w) j, fun i hi => ?_⟩
    rw [View.read_apply, View.read_apply, View.write_of_not_mem]
    intro hmem
    obtain ⟨j, -, hj⟩ := Finset.mem_map.mp hmem
    exact hi j (M.view.emb.injective hj)
  iexists _
  isplitr
  rotate_left
  · iexact Hp
  ipureintro; rfl

/-- A whole buffer written. -/
theorem step_store_whole (c : Dev nD) {α : Type} (X : s.Idx → Elt F e) (w : s.Idx → Elt F e)
    {off : Fin s.rank → Nat} (h : off = fun _ => 0) {inb : ∀ a, off a + s.size a ≤ s.size a}
    {hx : (M.access (Rect.unit (s := s) off s.size inb)).Stores Finset.univ} {hm}
    {k : PUnit → Prog (TpuEff nD τ sig (Elt F) Λ₀ .tc) α} {Q : α → sProp 𝕄} :
    owns (c : Thread nD τ) M fullShare X
      ⊢ iprop((owns (c : Thread nD τ) M fullShare w -∗ wpp c (k ⟨⟩) Q)
        -∗ wpp c (.op (.store M (Rect.unit (s := s) off s.size inb) w Finset.univ hx hm) k) Q) := by
  iintro Hp Hk
  iapply (step_store M c X (Rect.unit (s := s) off s.size inb) w) $$ Hp
  iintro %Y %hY Hp
  rw [show Y = w from funext fun j => (congrArg Y (emb_zero h inb j)).symm.trans (hY.1 j)]
  iapply Hk
  iexact Hp

/-- The next piece stored into a buffer that is being filled. -/
theorem step_fill (c : Dev nD) {α : Type} (T : s.Idx → Elt F e) (p p' : s.Idx → Prop) (r : Rect s) (w : r.shape.Idx → Elt F e)
    (hw : ∀ j, w j = T (r.emb j)) (hp : ∀ i, p' i → p i ∨ ∃ j, r.emb j = i)
    {hx : (M.access r).Stores Finset.univ} {hm}
    {k : PUnit → Prog (TpuEff nD τ sig (Elt F) Λ₀ .tc) α} {Q : α → sProp 𝕄} :
    filled M c p T
      ⊢ iprop((filled M c p' T -∗ wpp c (k ⟨⟩) Q)
        -∗ wpp c (.op (.store M r w Finset.univ hx hm) k) Q) := by
  unfold filled
  iintro ⟨%X, %hX, Hp⟩ Hk
  iapply (step_store M c X r w) $$ Hp
  iintro %Y %hY Hp
  iapply Hk
  iexists Y
  isplitr
  · ipureintro
    intro i hi
    by_cases hj : ∃ j, r.emb j = i
    · obtain ⟨j, rfl⟩ := hj
      rw [hY.1 j, hw]
    · rw [hY.2 i (fun j h => hj ⟨j, h⟩)]
      exact hX i ((hp i hi).resolve_right hj)
  iexact Hp

/-- A rectangle of it read that has been filled. -/
theorem step_load_filled (c : Dev nD) {α : Type} (T : s.Idx → Elt F e) (p : s.Idx → Prop) (r : Rect s)
    (hp : ∀ j, p (r.emb j)) (w : r.shape.Idx → Elt F e) (hw : ∀ j, w j = T (r.emb j))
    {hl : M.view.LoadsAt r.toLoadRect} {k : (r.shape.Idx → Elt F e) → Prog (TpuEff nD τ sig (Elt F) Λ₀ .tc) α} {Q : α → sProp 𝕄} :
    filled M c p T
      ⊢ iprop((filled M c p T -∗ wpp c (k w) Q)
        -∗ wpp c (.op (.load M r.toLoadRect hl) k) Q) := by
  unfold filled
  iintro ⟨%X, %hX, Hp⟩ Hk
  iapply (step_load M c X r) $$ Hp
  iintro Hp
  rw [show (fun j => X (r.emb j)) = w from funext fun j => (hX _ (hp j)).trans (hw j).symm]
  iapply Hk
  iexists X
  isplitr
  · ipureintro; exact hX
  iexact Hp

/-- A rectangle of it read whatever it holds. -/
theorem step_load_filling (c : Dev nD) {α : Type} (T : s.Idx → Elt F e) (p : s.Idx → Prop) (r : Rect s)
    {hl : M.view.LoadsAt r.toLoadRect} {k : (r.shape.Idx → Elt F e) → Prog (TpuEff nD τ sig (Elt F) Λ₀ .tc) α} {Q : α → sProp 𝕄} :
    filled M c p T
      ⊢ iprop((∀ X, filled M c p T -∗ wpp c (k X) Q)
        -∗ wpp c (.op (.load M r.toLoadRect hl) k) Q) := by
  unfold filled
  iintro ⟨%X, %hX, Hp⟩ Hk
  iapply (step_load M c X r) $$ Hp
  iintro Hp
  iapply Hk
  iexists X
  isplitr
  · ipureintro; exact hX
  iexact Hp

end Fill

end Cert.Rope

end
-- ==== Proof.Body.lean ====
/- A device's kernel run part by part under the protocol. -/
module

public import proofs.«01_k».proof.Proof.Steps

@[expose] public section

noncomputable section

namespace Cert.Rope

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The buffers the pipeline hands the kernel: ten inputs and the result. -/
structure Stg where
  a0 : Memref sig .tc .vmem S2x256x768 .bf16
  h0 : a0.IsWhole
  a1 : Memref sig .tc .vmem S768x256 .bf16
  h1 : a1.IsWhole
  a2 : Memref sig .tc .vmem S768x256 .bf16
  h2 : a2.IsWhole
  a3 : Memref sig .tc .vmem S768x256 .bf16
  h3 : a3.IsWhole
  a4 : Memref sig .tc .vmem S256x768 .bf16
  h4 : a4.IsWhole
  a5 : Memref sig .tc .vmem S512x256 .bf16
  h5 : a5.IsWhole
  a6 : Memref sig .tc .vmem S512x256 .bf16
  h6 : a6.IsWhole
  a7 : Memref sig .tc .vmem S512x256 .bf16
  h7 : a7.IsWhole
  a8 : Memref sig .tc .vmem S512x256 .bf16
  h8 : a8.IsWhole
  a9 : Memref sig .tc .vmem S256x256 .bf16
  h9 : a9.IsWhole
  a10 : Memref sig .tc .vmem S2x256x768 .f32
  h10 : a10.IsWhole

variable (A : Stg)

abbrev kp1 := k0_part1 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp2 := k0_part2 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp3 := k0_part3 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp4 := k0_part4 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp5 := k0_part5 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp6 := k0_part6 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp7 := k0_part7 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp8 := k0_part8 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp9 := k0_part9 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp10 := k0_part10 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp11 := k0_part11 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp12 := k0_part12 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp13 := k0_part13 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kp14 := k0_part14 (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8
abbrev kbody := cc0_body (F := F) A.a0 A.h0 A.a1 A.h1 A.a2 A.h2 A.a3 A.h3 A.a4 A.h4 A.a5 A.h5 A.a6 A.h6 A.a7 A.h7 A.a8 A.h8 A.a9 A.h9 A.a10 A.h10
  (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8

variable (I : Dev nD → Ins F) (K : GSem nD τ sig → ℕ) (c : Dev nD)

/-- The ten inputs in place. -/
def stg : sProp 𝕄 :=
  iprop(owns (c : Thread nD τ) A.a0 fullShare (I c).x ∗ owns (c : Thread nD τ) A.a1 fullShare (I c).wq
    ∗ owns (c : Thread nD τ) A.a2 fullShare (I c).wk ∗ owns (c : Thread nD τ) A.a3 fullShare (I c).wv
    ∗ owns (c : Thread nD τ) A.a4 fullShare (I c).wo ∗ owns (c : Thread nD τ) A.a5 fullShare (I c).cq
    ∗ owns (c : Thread nD τ) A.a6 fullShare (I c).sq ∗ owns (c : Thread nD τ) A.a7 fullShare (I c).ck
    ∗ owns (c : Thread nD τ) A.a8 fullShare (I c).sk ∗ owns (c : Thread nD τ) A.a9 fullShare (I c).r)

abbrev J : sProp 𝕄 := iprop(invs (part I) (summed I) K ∗ levAts L lv)

theorem zero2 : (![0, 0] : Fin 2 → Nat) = fun _ => 0 := by decide
theorem zero3 : (![0, 0, 0] : Fin 3 → Nat) = fun _ => 0 := by decide

theorem ne_nx1 : c ≠ nx c 1 := by revert c; decide
theorem ne_nx2 : c ≠ nx c 2 := by revert c; decide
theorem ne_nx3 : c ≠ nx c 3 := by revert c; decide

/-! ## The attention output and the result, filled piece by piece -/

/-- The attention output with its first `n` pieces in place. -/
def ctxUpTo (n : ℕ) : sProp 𝕄 := filled mCtx c (fun i => 4 * (i 0).val + (i 2).val / 64 < n) (I c).ctx

theorem ctx_piece (J : Ins F) (n : ℕ) (off : Fin 3 → Nat) (ho : off = ![n / 4, 0, 64 * (n % 4)])
    (inb : ∀ a, off a + S1x256x64.size a ≤ S2x256x256.size a) (j : S1x256x64.Idx) :
    J.piece n j = J.ctx ((Rect.unit (s := S2x256x256) off S1x256x64.size inb).emb j) := by
  subst ho
  have h0 : (j 0).val < 1 := (j 0).isLt
  have h1 : (j 1).val < 256 := (j 1).isLt
  have h2 : (j 2).val < 64 := (j 2).isLt
  have e0 : (((Rect.unit (s := S2x256x256) ![n / 4, 0, 64 * (n % 4)] S1x256x64.size inb).emb j) 0).val = n / 4 := by
    show n / 4 + 1 * (j 0).val = n / 4; omega
  have e1 : (((Rect.unit (s := S2x256x256) ![n / 4, 0, 64 * (n % 4)] S1x256x64.size inb).emb j) 1).val = (j 1).val := by
    show 0 + 1 * (j 1).val = (j 1).val; omega
  have e2 : (((Rect.unit (s := S2x256x256) ![n / 4, 0, 64 * (n % 4)] S1x256x64.size inb).emb j) 2).val = 64 * (n % 4) + (j 2).val := by
    show 64 * (n % 4) + 1 * (j 2).val = _; omega
  unfold Ins.ctx
  rw [show 4 * (((Rect.unit (s := S2x256x256) ![n / 4, 0, 64 * (n % 4)] S1x256x64.size inb).emb j) 0).val
      + (((Rect.unit (s := S2x256x256) ![n / 4, 0, 64 * (n % 4)] S1x256x64.size inb).emb j) 2).val / 64 = n by rw [e0, e2]; omega]
  refine congrArg (J.piece n) (funext fun a => ?_)
  fin_cases a
  · exact Fin.ext (by show (j 0).val = 0; omega)
  · exact Fin.ext (by show (j 1).val = _; exact e1.symm)
  · exact Fin.ext (by
      show (j 2).val = (((Rect.unit (s := S2x256x256) ![n / 4, 0, 64 * (n % 4)] S1x256x64.size inb).emb j) 2).val % 64
      rw [e2]; omega)

theorem ctx_cover (n : ℕ) (off : Fin 3 → Nat) (ho : off = ![n / 4, 0, 64 * (n % 4)])
    (inb : ∀ a, off a + S1x256x64.size a ≤ S2x256x256.size a) (i : S2x256x256.Idx)
    (hi : 4 * (i 0).val + (i 2).val / 64 < n + 1) :
    4 * (i 0).val + (i 2).val / 64 < n ∨ ∃ j : S1x256x64.Idx, (Rect.unit (s := S2x256x256) off S1x256x64.size inb).emb j = i := by
  subst ho
  have h2 : (i 2).val < 256 := (i 2).isLt
  rcases Nat.lt_or_ge (4 * (i 0).val + (i 2).val / 64) n with h | h
  · exact Or.inl h
  refine Or.inr ⟨ix3 (0 : Fin 1) (i 1 : Fin 256) (⟨(i 2).val % 64, Nat.mod_lt _ (by decide)⟩ : Fin 64), funext fun a => ?_⟩
  fin_cases a
  · exact Fin.ext (by show n / 4 + 1 * 0 = (i 0).val; omega)
  · exact Fin.ext (by show 0 + 1 * (i 1).val = (i 1).val; omega)
  · exact Fin.ext (by show 64 * (n % 4) + 1 * ((i 2).val % 64) = (i 2).val; omega)

/-- Piece `n` stored. -/
theorem step_piece (n : ℕ) {off : Fin 3 → Nat} (ho : off = ![n / 4, 0, 64 * (n % 4)])
    {inb : ∀ a, off a + S1x256x64.size a ≤ S2x256x256.size a} {w : Vec F S1x256x64 .bf16} (hw : w = (I c).piece n) {α : Type}
    {hx : ((mCtx).access (Rect.unit (s := S2x256x256) off S1x256x64.size inb)).Stores Finset.univ} {hm}
    {k : PUnit → Prog (TpuEff nD τ sig (Elt F) Λ₀ .tc) α} {Q : α → sProp 𝕄} :
    ctxUpTo I c n ⊢ iprop((ctxUpTo I c (n + 1) -∗ wpp c (k ⟨⟩) Q)
      -∗ wpp c (.op (.store mCtx (Rect.unit (s := S2x256x256) off S1x256x64.size inb) w Finset.univ hx hm) k) Q) := by
  subst hw
  exact step_fill mCtx c (I c).ctx _ _ _ _ (ctx_piece (I c) n off ho inb) (ctx_cover n off ho inb)

/-- The attention output read before a piece is stored. -/
theorem step_ctx_any (n : ℕ) (r : Rect S2x256x256) {α : Type} {hl : (mCtx).view.LoadsAt r.toLoadRect}
    {k : (r.shape.Idx → Elt F .bf16) → Prog (TpuEff nD τ sig (Elt F) Λ₀ .tc) α} {Q : α → sProp 𝕄} :
    ctxUpTo I c n ⊢ iprop((∀ X, ctxUpTo I c n -∗ wpp c (k X) Q) -∗ wpp c (.op (.load mCtx r.toLoadRect hl) k) Q) :=
  step_load_filling mCtx c (I c).ctx _ r

/-- Rows `128 h ..` of batch `b` read. -/
theorem step_half (n : ℕ) (b h : Fin 2) (hn : 4 * b.val + 4 ≤ n) {off : Fin 3 → Nat} (ho : off = ![b.val, 128 * h.val, 0])
    {inb : ∀ a, off a + S1x128x256.size a ≤ S2x256x256.size a} {α : Type}
    {hl : (mCtx).view.LoadsAt (Rect.unit (s := S2x256x256) off S1x128x256.size inb).toLoadRect}
    {k : Vec F S1x128x256 .bf16 → Prog (TpuEff nD τ sig (Elt F) Λ₀ .tc) α} {Q : α → sProp 𝕄} :
    ctxUpTo I c n ⊢ iprop((ctxUpTo I c n -∗ wpp c (k ((I c).half b h)) Q)
      -∗ wpp c (.op (.load mCtx (Rect.unit (s := S2x256x256) off S1x128x256.size inb).toLoadRect hl) k) Q) := by
  subst ho
  refine step_load_filled mCtx c (I c).ctx _ (Rect.unit (s := S2x256x256) ![b.val, 128 * h.val, 0] S1x128x256.size inb)
    (fun j => ?_) ((I c).half b h) (fun j => ?_)
  · have h0 : (j 0).val < 1 := (j 0).isLt
    have h2 : (j 2).val < 256 := (j 2).isLt
    show 4 * (b.val + 1 * (j 0).val) + (0 + 1 * (j 2).val) / 64 < n
    omega
  · unfold Ins.half
    refine congrArg (I c).ctx (funext fun a => ?_)
    fin_cases a
    · exact Fin.ext (by
        have h0 : (j 0).val < 1 := (j 0).isLt
        show b.val = b.val + 1 * (j 0).val; omega)
    · exact Fin.ext (by show 128 * h.val + (j 1).val = 128 * h.val + 1 * (j 1).val; omega)
    · exact Fin.ext (by show (j 2).val = 0 + 1 * (j 2).val; omega)

/-- The result with its first `n` chunks in place. -/
def outUpTo (n : ℕ) : sProp 𝕄 := filled A.a10 c (fun i => 2 * (i 0).val + (i 1).val / 128 < n) (out I)

theorem out_slab (n : Fin 4) (off : Fin 3 → Nat) (ho : off = ![n.val / 2, 128 * (n.val % 2), 0])
    (inb : ∀ a, off a + S1x128x768.size a ≤ S2x256x768.size a) (j : S1x128x768.Idx) :
    outSlab I n j = out I ((Rect.unit (s := S2x256x768) off S1x128x768.size inb).emb j) := by
  subst ho
  have h0 : (j 0).val < 1 := (j 0).isLt
  have h1 : (j 1).val < 128 := (j 1).isLt
  have e0 : (((Rect.unit (s := S2x256x768) ![n.val / 2, 128 * (n.val % 2), 0] S1x128x768.size inb).emb j) 0).val = n.val / 2 := by
    show n.val / 2 + 1 * (j 0).val = _; omega
  have e1 : (((Rect.unit (s := S2x256x768) ![n.val / 2, 128 * (n.val % 2), 0] S1x128x768.size inb).emb j) 1).val = 128 * (n.val % 2) + (j 1).val := by
    show 128 * (n.val % 2) + 1 * (j 1).val = _; omega
  have e2 : (((Rect.unit (s := S2x256x768) ![n.val / 2, 128 * (n.val % 2), 0] S1x128x768.size inb).emb j) 2).val = (j 2).val := by
    show 0 + 1 * (j 2).val = _; omega
  unfold out
  have hn := n.isLt
  refine congr (congrArg (outSlab I) ?_) ?_
  · exact (Fin.ext (by
      show n.val = 2 * (((Rect.unit (s := S2x256x768) ![n.val / 2, 128 * (n.val % 2), 0] S1x128x768.size inb).emb j) 0).val
        + (((Rect.unit (s := S2x256x768) ![n.val / 2, 128 * (n.val % 2), 0] S1x128x768.size inb).emb j) 1).val / 128
      rw [e0, e1]; omega))
  · funext a
    fin_cases a
    · exact Fin.ext (by show (j 0).val = 0; omega)
    · exact Fin.ext (by
        show (j 1).val = (((Rect.unit (s := S2x256x768) ![n.val / 2, 128 * (n.val % 2), 0] S1x128x768.size inb).emb j) 1).val % 128
        rw [e1]; omega)
    · exact Fin.ext (by show (j 2).val = _; exact e2.symm)

theorem out_cover (n : ℕ) (off : Fin 3 → Nat) (ho : off = ![n / 2, 128 * (n % 2), 0])
    (inb : ∀ a, off a + S1x128x768.size a ≤ S2x256x768.size a) (i : S2x256x768.Idx)
    (hi : 2 * (i 0).val + (i 1).val / 128 < n + 1) :
    2 * (i 0).val + (i 1).val / 128 < n ∨ ∃ j : S1x128x768.Idx, (Rect.unit (s := S2x256x768) off S1x128x768.size inb).emb j = i := by
  subst ho
  have h1 : (i 1).val < 256 := (i 1).isLt
  rcases Nat.lt_or_ge (2 * (i 0).val + (i 1).val / 128) n with h | h
  · exact Or.inl h
  refine Or.inr ⟨ix3 (0 : Fin 1) (⟨(i 1).val % 128, Nat.mod_lt _ (by decide)⟩ : Fin 128) (i 2 : Fin 768), funext fun a => ?_⟩
  fin_cases a
  · exact Fin.ext (by show n / 2 + 1 * 0 = (i 0).val; omega)
  · exact Fin.ext (by show 128 * (n % 2) + 1 * ((i 1).val % 128) = (i 1).val; omega)
  · exact Fin.ext (by show 0 + 1 * (i 2).val = (i 2).val; omega)

/-- Chunk `n` of the result stored. -/
theorem step_out (j : Fin 4) {n : ℕ} (hn : n = j.val) {off : Fin 3 → Nat} (ho : off = ![j.val / 2, 128 * (j.val % 2), 0])
    {inb : ∀ a, off a + S1x128x768.size a ≤ S2x256x768.size a} {w : Vec F S1x128x768 .f32} (hw : w = outSlab I j) {α : Type}
    {hx : (A.a10.access (Rect.unit (s := S2x256x768) off S1x128x768.size inb)).Stores Finset.univ} {hm}
    {k : PUnit → Prog (TpuEff nD τ sig (Elt F) Λ₀ .tc) α} {Q : α → sProp 𝕄} :
    outUpTo A I c n ⊢ iprop((outUpTo A I c (n + 1) -∗ wpp c (k ⟨⟩) Q)
      -∗ wpp c (.op (.store A.a10 (Rect.unit (s := S2x256x768) off S1x128x768.size inb) w Finset.univ hx hm) k) Q) := by
  subst hw hn
  exact step_fill A.a10 c (out I) _ _ _ _ (out_slab I j off ho inb) (out_cover j.val off ho inb)

theorem step_out_any (n : ℕ) (r : Rect S2x256x768) {α : Type} {hl : A.a10.view.LoadsAt r.toLoadRect}
    {k : (r.shape.Idx → Elt F .f32) → Prog (TpuEff nD τ sig (Elt F) Λ₀ .tc) α} {Q : α → sProp 𝕄} :
    outUpTo A I c n ⊢ iprop((∀ X, outUpTo A I c n -∗ wpp c (k X) Q) -∗ wpp c (.op (.load A.a10 r.toLoadRect hl) k) Q) :=
  step_load_filling A.a10 c (out I) _ r

abbrev dw : BitVec 32 := Scalar.remsi (Scalar.divsi (Dev.word c) 1#32) 4#32

/-- Part 1: the three barrier signals, the barrier wait, the weights and the input read. -/
theorem part1_run (Q : _ → sProp 𝕄) :
    iprop(J I K ∗ owing c (O₀ c)
        ∗ (dutyTok ER (barCell (nx c 1)) 0 c ∗ barPay c (nx c 1) ∗ reached ER (barCell (nx c 1)) 0)
        ∗ (dutyTok ER (barCell (nx c 2)) 0 c ∗ barPay c (nx c 2) ∗ reached ER (barCell (nx c 2)) 0)
        ∗ (dutyTok ER (barCell (nx c 3)) 0 c ∗ barPay c (nx c 3) ∗ reached ER (barCell (nx c 3)) 0)
        ∗ cred (tallyAt (barCell c) () 3) ∗ atPos ER (barCell c) 0 ∅ 0 ∗ stg A I c
        ∗ (iprop(owing c (oR0 c) ∗ atPos ER (barCell c) (0 + 1) ∅ 0 ∗ bigSep (Finset.univ.erase c) (fun d => barPay d c) ∗ stg A I c)
          -∗ Q ⟨c, dw c, k0_pay1 (I c).wq, k0_pay2 (I c).wk, k0_pay3 (I c).wv, k0_pay4 (I c).wo, (I c).x⟩))
      ⊢ wpp c (kp1 A) Q := by
  unfold kp1
  rw [k0_part1_eq_skeleton]
  simp only [k0_part1_skel, semSignalWord, semWaitWord, Prog.lift, Prog.bind_op, Prog.bind_ret, Prog.pure_eq_ret, wp_deviceId]
  rw [dev1_eq, dev2_eq, dev3_eq]
  unfold stg O₀ oB2 oB3
  iintro ⟨⟨#HI, #HL⟩, HO, ⟨Ht1, Hp1, Hr1⟩, ⟨Ht2, Hp2, Hr2⟩, ⟨Ht3, Hp3, Hr3⟩, Hc, Ha, ⟨S0, S1, S2, S3, S4, SR⟩, Hk⟩
  iapply (step_signal (part I) (summed I) K c (nx c 1) (ne_nx1 c) _) $$ [HO Ht1 Hp1 Hr1]
  · isplitr; · iexact HI
    isplitl [HO]; · iexact HO
    isplitl [Ht1]; · iexact Ht1
    isplitl [Hp1]; · iexact Hp1
    iexact Hr1
  iintro HO
  iapply (step_signal (part I) (summed I) K c (nx c 2) (ne_nx2 c) _) $$ [HO Ht2 Hp2 Hr2]
  · isplitr; · iexact HI
    isplitl [HO]; · iexact HO
    isplitl [Ht2]; · iexact Ht2
    isplitl [Hp2]; · iexact Hp2
    iexact Hr2
  iintro HO
  iapply (step_signal (part I) (summed I) K c (nx c 3) (ne_nx3 c) _) $$ [HO Ht3 Hp3 Hr3]
  · isplitr; · iexact HI
    isplitl [HO]; · iexact HO
    isplitl [Ht3]; · iexact Ht3
    isplitl [Hp3]; · iexact Hp3
    iexact Hr3
  iintro HO
  iapply (step_wait_bar (part I) (summed I) K c (oR0 c) (above_oR0 (by decide) c)) $$ [HO Hc Ha]
  · isplitr; · iexact HI
    isplitr; · iexact HL
    isplitl [Hc]; · iexact Hc
    isplitl [HO]; · iexact HO
    iexact Ha
  iintro ⟨HO, Ha, Hb⟩
  iapply (step_load_whole A.a1 c (I c).wq zero2) $$ S1
  iintro S1
  iapply (step_load_whole A.a2 c (I c).wk zero2) $$ S2
  iintro S2
  iapply (step_load_whole A.a3 c (I c).wv zero2) $$ S3
  iintro S3
  iapply (step_load_whole A.a4 c (I c).wo zero2) $$ S4
  iintro S4
  iapply (step_load_whole A.a0 c (I c).x zero3) $$ S0
  iintro S0
  iapply (step_ret c)
  iapply Hk
  isplitl [HO]; · iexact HO
  isplitl [Ha]; · iexact Ha
  isplitl [Hb]; · iexact Hb
  isplitl [S0]; · iexact S0
  isplitl [S1]; · iexact S1
  isplitl [S2]; · iexact S2
  isplitl [S3]; · iexact S3
  isplitl [S4]; · iexact S4
  iexact SR

/-- Part 2: the tables read; the rotated projections and the first head's scores computed. -/
theorem part2_run (Q : _ → sProp 𝕄) :
    iprop(stg A I c
        ∗ (stg A I c -∗ Q ⟨(I c).v, (I c).q, (I c).k,
            k0_pay10 (k0_pay1 (I c).wq) (k0_pay2 (I c).wk) (I c).x (I c).cq (I c).r (I c).sq (I c).ck (I c).r (I c).sk,
            k0_pay11 (k0_pay1 (I c).wq) (k0_pay2 (I c).wk) (I c).x (I c).cq (I c).r (I c).sq (I c).ck (I c).r (I c).sk,
            k0_pay12 (k0_pay3 (I c).wv) (I c).x⟩))
      ⊢ wpp c (kp2 A (k0_pay1 (I c).wq) (k0_pay2 (I c).wk) (k0_pay3 (I c).wv) (I c).x) Q := by
  unfold kp2
  rw [k0_part2_eq_skeleton]
  simp only [k0_part2_skel, semSignalWord, semWaitWord, Prog.lift, Prog.bind_op, Prog.bind_ret, Prog.pure_eq_ret, wp_deviceId]
  unfold stg
  iintro ⟨⟨S0, S1, S2, S3, S4, S5, S6, S7, S8, S9⟩, Hk⟩
  iapply (step_load_whole A.a5 c (I c).cq zero2) $$ S5
  iintro S5
  iapply (step_load_whole A.a9 c (I c).r zero2) $$ S9
  iintro S9
  iapply (step_load_whole A.a6 c (I c).sq zero2) $$ S6
  iintro S6
  iapply (step_load_whole A.a7 c (I c).ck zero2) $$ S7
  iintro S7
  iapply (step_load_whole A.a9 c (I c).r zero2) $$ S9
  iintro S9
  iapply (step_load_whole A.a8 c (I c).sk zero2) $$ S8
  iintro S8
  iapply (step_ret c)
  iapply Hk
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

theorem lv_le0 (j : Fin 4) : lv (cell c 0 j) () ≤ 0 := by rw [lv_dma]; decide
theorem lv_le1 (j : Fin 4) : lv (cell c 1 j) () ≤ 2 := by rw [lv_dma]; decide
theorem lv_le2 (j : Fin 4) : lv (cell c 2 j) () ≤ 0 := by rw [lv_dma]; decide
theorem lv_le3 (j : Fin 4) : lv (cell c 3 j) () ≤ 3 := by rw [lv_dma]; decide

/-- What device `c` spends to send its share of chunk `j`. -/
def rsKit (j : Dev nD) : sProp 𝕄 :=
  iprop(anyAt j (slot mRs c) ∗ dutyTok ER (cell c 0 j) 0 c ∗ reached ER (cell c 0 j) 0 ∗ dutyTok ER (cell j 1 c) 0 c ∗ reached ER (cell j 1 c) 0)
/-- What device `c` spends to send its summed chunk to device `t`. -/
def agKit (t : Dev nD) : sProp 𝕄 :=
  iprop(anyAt t (slot mAg c) ∗ dutyTok ER (cell c 2 t) 0 c ∗ reached ER (cell c 2 t) 0 ∗ dutyTok ER (cell t 3 c) 0 c ∗ reached ER (cell t 3 c) 0)
/-- A counter about to be waited on, with the credit for the wait. -/
def unwaited (k j : Fin 4) : sProp 𝕄 := iprop(cred (tallyAt (cell c k j) () N) ∗ atPos ER (cell c k j) 0 ∅ 0)

/-- Part 3: the first two pieces stored. -/
theorem part3_run (Q : _ → sProp 𝕄) :
    iprop(ctxUpTo I c 0
        ∗ (iprop(ctxUpTo I c 2) -∗ Q (k0_pay15 (I c).v (I c).q (I c).k)))
      ⊢ wpp c (kp3 A (I c).v (I c).q (I c).k
        (k0_pay10 (k0_pay1 (I c).wq) (k0_pay2 (I c).wk) (I c).x (I c).cq (I c).r (I c).sq (I c).ck (I c).r (I c).sk)
        (k0_pay11 (k0_pay1 (I c).wq) (k0_pay2 (I c).wk) (I c).x (I c).cq (I c).r (I c).sq (I c).ck (I c).r (I c).sk)
        (k0_pay12 (k0_pay3 (I c).wv) (I c).x)) Q := by
  unfold kp3
  rw [k0_part3_eq_skeleton]
  simp only [k0_part3_skel, semSignalWord, semWaitWord, Prog.lift, Prog.bind_op, Prog.bind_ret, Prog.pure_eq_ret, wp_deviceId]
  iintro ⟨HX, Hk⟩
  iapply (step_ctx_any I c 0 _) $$ HX
  iintro %_ HX
  iapply (step_piece I c 0 rfl rfl) $$ HX
  iintro HX
  iapply (step_ctx_any I c 1 _) $$ HX
  iintro %_ HX
  iapply (step_piece I c 1 rfl rfl) $$ HX
  iintro HX
  iapply (step_ctx_any I c 2 _) $$ HX
  iintro %_ HX
  iapply (step_ret c)
  iapply Hk
  iexact HX

/-- Part 4: two more pieces stored; the share of chunk 0 computed. -/
theorem part4_run (Q : _ → sProp 𝕄) :
    iprop(ctxUpTo I c 2
        ∗ anyAt c (slot mSb 0)
        ∗ (iprop(ctxUpTo I c 4
          ∗ owns (c : Thread nD τ) (slot mSb 0) fullShare (part I c 0)) -∗ Q ⟨⟩))
      ⊢ wpp c (kp4 A c (I c).w (I c).v (I c).q (I c).k (k0_pay15 (I c).v (I c).q (I c).k)) Q := by
  unfold kp4
  rw [k0_part4_eq_skeleton]
  simp only [k0_part4_skel, semSignalWord, semWaitWord, Prog.lift, Prog.bind_op, Prog.bind_ret, Prog.pure_eq_ret, wp_deviceId]
  iintro ⟨HX, HS0, Hk⟩
  iapply (step_piece I c 2 rfl rfl) $$ HX
  iintro HX
  iapply (step_ctx_any I c 3 _) $$ HX
  iintro %_ HX
  iapply (step_piece I c 3 rfl rfl) $$ HX
  iintro HX
  iapply (step_half I c 4 0 0 (by decide) rfl) $$ HX
  iintro HX
  iapply (step_load_any' mSb _ _ c 0 rfl) $$ HS0
  iintro %_ HS0
  iapply (step_store_slot' mSb _ _ c 0 rfl _) $$ HS0
  iintro HS0
  iapply (step_ret c)
  iapply Hk
  isplitl [HX]; · iexact HX
  iexact HS0

/-- Part 5: the shares of chunks 0 and 1 sent. -/
theorem part5_run (Q : _ → sProp 𝕄) :
    iprop(J I K
        ∗ owing c (oR0 c)
        ∗ ctxUpTo I c 4
        ∗ owns (c : Thread nD τ) (slot mSb 0) fullShare (part I c 0)
        ∗ anyAt c (slot mSb 1)
        ∗ rsKit c 0
        ∗ rsKit c 1
        ∗ (iprop(owing c (oR2 c)
          ∗ ctxUpTo I c 4
          ∗ cred (tallyAt (cell c 0 0) () N)
          ∗ cred (tallyAt (cell c 0 1) () N)) -∗ Q (k0_pay20 (I c).v (I c).q (I c).k)))
      ⊢ wpp c (kp5 A c (I c).w (I c).v (I c).q (I c).k) Q := by
  unfold kp5
  rw [k0_part5_eq_skeleton]
  simp only [k0_part5_skel, semSignalWord, semWaitWord, Prog.lift, Prog.bind_op, Prog.bind_ret, Prog.pure_eq_ret, wp_deviceId]
  unfold rsKit
  iintro ⟨⟨#HI, #HL⟩, HO, HX, HS0, HS1, ⟨HP0, T0, U0, V0, W0⟩, ⟨HP1, T1, U1, V1, W1⟩, Hk⟩
  iapply (step_send_rs (part I) (summed I) K c 0 (oR1 c) rfl (off2_eq c) rfl (sem_eq0 0) (sem_off1 c)) $$ [HS0 HP0 HO T0 U0 V0 W0]
  · isplitr; · iexact HI
    isplitl [HS0]; · iexact HS0
    isplitl [HP0]; · iexact HP0
    isplitl [HO]; · iexact HO
    isplitl [T0]; · iexact T0
    isplitl [U0]; · iexact U0
    isplitl [V0]; · iexact V0
    iexact W0
  iintro ⟨C0, HO⟩
  iapply (step_half I c 4 0 1 (by decide) rfl) $$ HX
  iintro HX
  iapply (step_load_any' mSb _ _ c 1 rfl) $$ HS1
  iintro %_ HS1
  iapply (step_store_slot' mSb _ _ c 1 rfl _) $$ HS1
  iintro HS1
  iapply (step_send_rs (part I) (summed I) K c 1 (oR2 c) rfl (off2_eq c) rfl (sem_eq0 1) (sem_off1 c)) $$ [HS1 HP1 HO T1 U1 V1 W1]
  · isplitr; · iexact HI
    isplitl [HS1]; · iexact HS1
    isplitl [HP1]; · iexact HP1
    isplitl [HO]; · iexact HO
    isplitl [T1]; · iexact T1
    isplitl [U1]; · iexact U1
    isplitl [V1]; · iexact V1
    iexact W1
  iintro ⟨C1, HO⟩
  iapply (step_ctx_any I c 4 _) $$ HX
  iintro %_ HX
  iapply (step_ret c)
  iapply Hk
  isplitl [HO]; · iexact HO
  isplitl [HX]; · iexact HX
  isplitl [C0]; · iexact C0
  iexact C1

/-- Part 6: three pieces of the second batch stored. -/
theorem part6_run (Q : _ → sProp 𝕄) :
    iprop(ctxUpTo I c 4
        ∗ (iprop(ctxUpTo I c 7) -∗ Q ⟨k0_pay24 (I c).q (I c).k, k0_pay25 (I c).q (I c).k⟩))
      ⊢ wpp c (kp6 A (I c).v (I c).q (I c).k (k0_pay20 (I c).v (I c).q (I c).k)) Q := by
  unfold kp6
  rw [k0_part6_eq_skeleton]
  simp only [k0_part6_skel, semSignalWord, semWaitWord, Prog.lift, Prog.bind_op, Prog.bind_ret, Prog.pure_eq_ret, wp_deviceId]
  iintro ⟨HX, Hk⟩
  iapply (step_piece I c 4 rfl rfl) $$ HX
  iintro HX
  iapply (step_ctx_any I c 5 _) $$ HX
  iintro %_ HX
  iapply (step_piece I c 5 rfl rfl) $$ HX
  iintro HX
  iapply (step_ctx_any I c 6 _) $$ HX
  iintro %_ HX
  iapply (step_piece I c 6 rfl rfl) $$ HX
  iintro HX
  iapply (step_ret c)
  iapply Hk
  iexact HX

/-- Part 7: the last piece stored; the share of chunk 2 computed and sent. -/
theorem part7_run (Q : _ → sProp 𝕄) :
    iprop(J I K
        ∗ owing c (oR2 c)
        ∗ ctxUpTo I c 7
        ∗ anyAt c (slot mSb 2)
        ∗ rsKit c 2
        ∗ (iprop(owing c (oR3 c)
          ∗ ctxUpTo I c 8
          ∗ cred (tallyAt (cell c 0 2) () N)) -∗ Q (k0_pay28 (I c).w ((I c).half 1 1))))
      ⊢ wpp c (kp7 A c (I c).w (I c).v (k0_pay24 (I c).q (I c).k) (k0_pay25 (I c).q (I c).k)) Q := by
  unfold kp7
  rw [k0_part7_eq_skeleton]
  simp only [k0_part7_skel, semSignalWord, semWaitWord, Prog.lift, Prog.bind_op, Prog.bind_ret, Prog.pure_eq_ret, wp_deviceId]
  unfold rsKit
  iintro ⟨⟨#HI, #HL⟩, HO, HX, HS2, ⟨HP2, T2, U2, V2, W2⟩, Hk⟩
  iapply (step_ctx_any I c 7 _) $$ HX
  iintro %_ HX
  iapply (step_piece I c 7 rfl rfl) $$ HX
  iintro HX
  iapply (step_half I c 8 1 0 (by decide) rfl) $$ HX
  iintro HX
  iapply (step_load_any' mSb _ _ c 2 rfl) $$ HS2
  iintro %_ HS2
  iapply (step_store_slot' mSb _ _ c 2 rfl _) $$ HS2
  iintro HS2
  iapply (step_send_rs (part I) (summed I) K c 2 (oR3 c) rfl (off2_eq c) rfl (sem_eq0 2) (sem_off1 c)) $$ [HS2 HP2 HO T2 U2 V2 W2]
  · isplitr; · iexact HI
    isplitl [HS2]; · iexact HS2
    isplitl [HP2]; · iexact HP2
    isplitl [HO]; · iexact HO
    isplitl [T2]; · iexact T2
    isplitl [U2]; · iexact U2
    isplitl [V2]; · iexact V2
    iexact W2
  iintro ⟨C2, HO⟩
  iapply (step_half I c 8 1 1 (by decide) rfl) $$ HX
  iintro HX
  iapply (step_ret c)
  iapply Hk
  isplitl [HO]; · iexact HO
  isplitl [HX]; · iexact HX
  iexact C2

/-- Part 8: the share of chunk 3 sent; device 0's share of the own chunk awaited. -/
theorem part8_run (v2 : BitVec 32) (Q : _ → sProp 𝕄) :
    iprop(J I K
        ∗ owing c (oR3 c)
        ∗ anyAt c (slot mSb 3)
        ∗ rsKit c 3
        ∗ unwaited c 1 0
        ∗ (iprop(owing c (oA0 c)
          ∗ cred (tallyAt (cell c 0 3) () N)
          ∗ atPos ER (cell c 1 0) (0 + 1) ∅ 0
          ∗ dmaPay (part I) (summed I) c 1 0) -∗ Q ⟨⟩))
      ⊢ wpp c (kp8 A c v2 (k0_pay28 (I c).w ((I c).half 1 1))) Q := by
  unfold kp8
  rw [k0_part8_eq_skeleton]
  simp only [k0_part8_skel, semSignalWord, semWaitWord, Prog.lift, Prog.bind_op, Prog.bind_ret, Prog.pure_eq_ret, wp_deviceId]
  unfold rsKit unwaited
  iintro ⟨⟨#HI, #HL⟩, HO, HS3, ⟨HP3, T3, U3, V3, W3⟩, ⟨C0, A0⟩, Hk⟩
  iapply (step_load_any' mSb _ _ c 3 rfl) $$ HS3
  iintro %_ HS3
  iapply (step_store_slot' mSb _ _ c 3 rfl _) $$ HS3
  iintro HS3
  iapply (step_send_rs (part I) (summed I) K c 3 (oA0 c) rfl (off2_eq c) rfl (sem_eq0 3) (sem_off1 c)) $$ [HS3 HP3 HO T3 U3 V3 W3]
  · isplitr; · iexact HI
    isplitl [HS3]; · iexact HS3
    isplitl [HP3]; · iexact HP3
    isplitl [HO]; · iexact HO
    isplitl [T3]; · iexact T3
    isplitl [U3]; · iexact U3
    isplitl [V3]; · iexact V3
    iexact W3
  iintro ⟨C3, HO⟩
  iapply (step_wait (part I) (summed I) K c 1 0 (oA0 c) (lv_le1 c 0) (above_oA0 (by decide) c) (sem_eq1 0) (dst := slotM mRs ![0, 0, 0] (slot_inb 0)) rfl) $$ [C0 HO A0]
  · isplitr; · iexact HI
    isplitr; · iexact HL
    isplitl [C0]; · iexact C0
    isplitl [HO]; · iexact HO
    iexact A0
  iintro ⟨HO, A0, D0⟩
  iapply (step_ret c)
  iapply Hk
  isplitl [HO]; · iexact HO
  isplitl [C3]; · iexact C3
  isplitl [A0]; · iexact A0
  iexact D0

theorem dmaPay0_eq (j : Fin 4) : dmaPay (part I) (summed I) c 0 j = anyAt c (slot mSb j) := by unfold dmaPay; rw [if_pos rfl]
theorem dmaPay1_eq (j : Fin 4) : dmaPay (part I) (summed I) c 1 j = owns (c : Thread nD τ) (slot mRs j) fullShare (part I j c) := by
  unfold dmaPay; rw [if_neg (by decide), if_pos rfl]
theorem dmaPay2_eq (j : Fin 4) : dmaPay (part I) (summed I) c 2 j = owns (c : Thread nD τ) mAs (quarter j) (summed I c) := by
  unfold dmaPay; rw [if_neg (by decide), if_neg (by decide), if_pos rfl]
theorem dmaPay3_eq (j : Fin 4) : dmaPay (part I) (summed I) c 3 j = owns (c : Thread nD τ) (slot mAg j) fullShare (summed I j) := by
  unfold dmaPay; rw [if_neg (by decide), if_neg (by decide), if_neg (by decide)]

/-- Part 9: the other shares awaited; three of the four read. -/
theorem part9_run (v2 : BitVec 32) (Q : _ → sProp 𝕄) :
    iprop(J I K
        ∗ owing c (oA0 c)
        ∗ dmaPay (part I) (summed I) c 1 0
        ∗ unwaited c 1 1
        ∗ unwaited c 1 2
        ∗ unwaited c 1 3
        ∗ (iprop(owing c (oA0 c)
          ∗ atPos ER (cell c 1 1) (0 + 1) ∅ 0
          ∗ atPos ER (cell c 1 2) (0 + 1) ∅ 0
          ∗ atPos ER (cell c 1 3) (0 + 1) ∅ 0
          ∗ owns (c : Thread nD τ) (slot mRs 0) fullShare (part I 0 c)
          ∗ owns (c : Thread nD τ) (slot mRs 1) fullShare (part I 1 c)
          ∗ owns (c : Thread nD τ) (slot mRs 2) fullShare (part I 2 c)
          ∗ owns (c : Thread nD τ) (slot mRs 3) fullShare (part I 3 c)) -∗ Q ⟨k0_pay30 (un (part I 0 c)) (un (part I 1 c)), un (part I 2 c)⟩))
      ⊢ wpp c (kp9 A v2) Q := by
  unfold kp9
  rw [k0_part9_eq_skeleton]
  simp only [k0_part9_skel, semSignalWord, semWaitWord, Prog.lift, Prog.bind_op, Prog.bind_ret, Prog.pure_eq_ret, wp_deviceId]
  unfold unwaited
  iintro ⟨⟨#HI, #HL⟩, HO, D0, ⟨C1, A1⟩, ⟨C2, A2⟩, ⟨C3, A3⟩, Hk⟩
  iapply (step_wait (part I) (summed I) K c 1 1 (oA0 c) (lv_le1 c 1) (above_oA0 (by decide) c) (sem_eq1 1) (dst := slotM mRs ![1, 0, 0] (slot_inb 1)) rfl) $$ [C1 HO A1]
  · isplitr; · iexact HI
    isplitr; · iexact HL
    isplitl [C1]; · iexact C1
    isplitl [HO]; · iexact HO
    iexact A1
  iintro ⟨HO, A1, D1⟩
  iapply (step_wait (part I) (summed I) K c 1 2 (oA0 c) (lv_le1 c 2) (above_oA0 (by decide) c) (sem_eq1 2) (dst := slotM mRs ![2, 0, 0] (slot_inb 2)) rfl) $$ [C2 HO A2]
  · isplitr; · iexact HI
    isplitr; · iexact HL
    isplitl [C2]; · iexact C2
    isplitl [HO]; · iexact HO
    iexact A2
  iintro ⟨HO, A2, D2⟩
  iapply (step_wait (part I) (summed I) K c 1 3 (oA0 c) (lv_le1 c 3) (above_oA0 (by decide) c) (sem_eq1 3) (dst := slotM mRs ![3, 0, 0] (slot_inb 3)) rfl) $$ [C3 HO A3]
  · isplitr; · iexact HI
    isplitr; · iexact HL
    isplitl [C3]; · iexact C3
    isplitl [HO]; · iexact HO
    iexact A3
  iintro ⟨HO, A3, D3⟩
  ihave D0 := (Entails.of_eq (dmaPay1_eq I c 0)) $$ D0
  ihave D1 := (Entails.of_eq (dmaPay1_eq I c 1)) $$ D1
  ihave D2 := (Entails.of_eq (dmaPay1_eq I c 2)) $$ D2
  ihave D3 := (Entails.of_eq (dmaPay1_eq I c 3)) $$ D3
  iapply (step_load_slot' mRs _ _ c 0 rfl (part I 0 c)) $$ D0
  iintro D0
  iapply (step_load_slot' mRs _ _ c 1 rfl (part I 1 c)) $$ D1
  iintro D1
  iapply (step_load_slot' mRs _ _ c 2 rfl (part I 2 c)) $$ D2
  iintro D2
  iapply (step_ret c)
  iapply Hk
  isplitl [HO]; · iexact HO
  isplitl [A1]; · iexact A1
  isplitl [A2]; · iexact A2
  isplitl [A3]; · iexact A3
  isplitl [D0]; · iexact D0
  isplitl [D1]; · iexact D1
  isplitl [D2]; · iexact D2
  iexact D3

/-- The summed chunk in four quarter shares, and back. -/
theorem quarters (X : S128x768.Idx → Elt F .bf16) : (owns (c : Thread nD τ) mAs fullShare X : sProp 𝕄)
    ⊢ iprop(owns (c : Thread nD τ) mAs (quarter 0) X ∗ owns (c : Thread nD τ) mAs (quarter 1) X
      ∗ owns (c : Thread nD τ) mAs (quarter 2) X ∗ owns (c : Thread nD τ) mAs (quarter 3) X) := by
  have h1 : (owns (c : Thread nD τ) mAs fullShare X : sProp 𝕄) ⊢ _ := (owns_halves (c : Thread nD τ) mAs fullShare X).1
  have h2 : (owns (c : Thread nD τ) mAs fullShare.left X : sProp 𝕄) ⊢ _ := (owns_halves (c : Thread nD τ) mAs fullShare.left X).1
  have h3 : (owns (c : Thread nD τ) mAs fullShare.right X : sProp 𝕄) ⊢ _ := (owns_halves (c : Thread nD τ) mAs fullShare.right X).1
  exact h1.trans ((BI.sep_mono h2 h3).trans (sep_assoc (PROP := sProp 𝕄)).1)
theorem quarters_join (X : S128x768.Idx → Elt F .bf16) :
    iprop(owns (c : Thread nD τ) mAs (quarter 0) X ∗ owns (c : Thread nD τ) mAs (quarter 1) X
      ∗ owns (c : Thread nD τ) mAs (quarter 2) X ∗ owns (c : Thread nD τ) mAs (quarter 3) X)
    ⊢ (owns (c : Thread nD τ) mAs fullShare X : sProp 𝕄) := by
  have h1 : _ ⊢ (owns (c : Thread nD τ) mAs fullShare X : sProp 𝕄) := (owns_halves (c : Thread nD τ) mAs fullShare X).2
  have h2 : _ ⊢ (owns (c : Thread nD τ) mAs fullShare.left X : sProp 𝕄) := (owns_halves (c : Thread nD τ) mAs fullShare.left X).2
  have h3 : _ ⊢ (owns (c : Thread nD τ) mAs fullShare.right X : sProp 𝕄) := (owns_halves (c : Thread nD τ) mAs fullShare.right X).2
  exact (sep_assoc (PROP := sProp 𝕄)).2.trans ((BI.sep_mono h2 h3).trans h1)

/-- Part 10: the chunk summed, and sent to devices 0 and 1. -/
theorem part10_run (Q : _ → sProp 𝕄) :
    iprop(J I K
        ∗ owing c (oA0 c)
        ∗ owns (c : Thread nD τ) (slot mRs 3) fullShare (part I 3 c)
        ∗ anyAt c mAs
        ∗ agKit c 0
        ∗ agKit c 1
        ∗ (iprop(owing c (oA2 c)
          ∗ owns (c : Thread nD τ) (slot mRs 3) fullShare (part I 3 c)
          ∗ owns (c : Thread nD τ) mAs (quarter 2) (summed I c)
          ∗ owns (c : Thread nD τ) mAs (quarter 3) (summed I c)
          ∗ cred (tallyAt (cell c 2 0) () N)
          ∗ cred (tallyAt (cell c 2 1) () N)) -∗ Q ⟨⟩))
      ⊢ wpp c (kp10 A c (k0_pay30 (un (part I 0 c)) (un (part I 1 c))) (un (part I 2 c))) Q := by
  unfold kp10
  rw [k0_part10_eq_skeleton]
  simp only [k0_part10_skel, semSignalWord, semWaitWord, Prog.lift, Prog.bind_op, Prog.bind_ret, Prog.pure_eq_ret, wp_deviceId]
  unfold agKit
  rw [show anyAt c mAs = iprop(∃ X, owns (c : Thread nD τ) mAs fullShare X) from rfl]
  iintro ⟨⟨#HI, #HL⟩, HO, D3, ⟨%X0, HS⟩, ⟨HP0, T0, U0, V0, W0⟩, ⟨HP1, T1, U1, V1, W1⟩, Hk⟩
  iapply (step_load_slot' mRs _ _ c 3 rfl (part I 3 c)) $$ D3
  iintro D3
  iapply (step_load_whole mAs c X0 zero2) $$ HS
  iintro HS
  iapply (step_store_whole mAs c X0 (summed I c) zero2) $$ HS
  iintro HS
  ihave HS := (quarters c (summed I c)) $$ HS
  icases HS with ⟨HS0, HS1, HS2, HS3⟩
  iapply (step_send_ag (part I) (summed I) K c 0 (oA1 c) (off2_eq c) rfl (sem_eq2 0) (sem_off1' c)) $$ [HS0 HP0 HO T0 U0 V0 W0]
  · isplitr; · iexact HI
    isplitl [HS0]; · iexact HS0
    isplitl [HP0]; · iexact HP0
    isplitl [HO]; · iexact HO
    isplitl [T0]; · iexact T0
    isplitl [U0]; · iexact U0
    isplitl [V0]; · iexact V0
    iexact W0
  iintro ⟨C0, HO⟩
  iapply (step_send_ag (part I) (summed I) K c 1 (oA2 c) (off2_eq c) rfl (sem_eq2 1) (sem_off1' c)) $$ [HS1 HP1 HO T1 U1 V1 W1]
  · isplitr; · iexact HI
    isplitl [HS1]; · iexact HS1
    isplitl [HP1]; · iexact HP1
    isplitl [HO]; · iexact HO
    isplitl [T1]; · iexact T1
    isplitl [U1]; · iexact U1
    isplitl [V1]; · iexact V1
    iexact W1
  iintro ⟨C1, HO⟩
  iapply (step_ret c)
  iapply Hk
  isplitl [HO]; · iexact HO
  isplitl [D3]; · iexact D3
  isplitl [HS2]; · iexact HS2
  isplitl [HS3]; · iexact HS3
  isplitl [C0]; · iexact C0
  iexact C1

/-- Part 11: the summed chunk sent to devices 2 and 3; chunk 0 of the result received and stored. -/
theorem part11_run (v2 : BitVec 32) (Q : _ → sProp 𝕄) :
    iprop(J I K
        ∗ owing c (oA2 c)
        ∗ owns (c : Thread nD τ) mAs (quarter 2) (summed I c)
        ∗ owns (c : Thread nD τ) mAs (quarter 3) (summed I c)
        ∗ agKit c 2
        ∗ agKit c 3
        ∗ unwaited c 3 0
        ∗ outUpTo A I c 0
        ∗ (iprop(owing c 0
          ∗ cred (tallyAt (cell c 2 2) () N)
          ∗ cred (tallyAt (cell c 2 3) () N)
          ∗ atPos ER (cell c 3 0) (0 + 1) ∅ 0
          ∗ owns (c : Thread nD τ) (slot mAg 0) fullShare (summed I 0)
          ∗ outUpTo A I c 1) -∗ Q ⟨⟩))
      ⊢ wpp c (kp11 A c v2) Q := by
  unfold kp11
  rw [k0_part11_eq_skeleton]
  simp only [k0_part11_skel, semSignalWord, semWaitWord, Prog.lift, Prog.bind_op, Prog.bind_ret, Prog.pure_eq_ret, wp_deviceId]
  unfold agKit unwaited
  iintro ⟨⟨#HI, #HL⟩, HO, HS2, HS3, ⟨HP2, T2, U2, V2, W2⟩, ⟨HP3, T3, U3, V3, W3⟩, ⟨C0, A0⟩, HY, Hk⟩
  iapply (step_send_ag (part I) (summed I) K c 2 (oA3 c) (off2_eq c) rfl (sem_eq2 2) (sem_off1' c)) $$ [HS2 HP2 HO T2 U2 V2 W2]
  · isplitr; · iexact HI
    isplitl [HS2]; · iexact HS2
    isplitl [HP2]; · iexact HP2
    isplitl [HO]; · iexact HO
    isplitl [T2]; · iexact T2
    isplitl [U2]; · iexact U2
    isplitl [V2]; · iexact V2
    iexact W2
  iintro ⟨C2, HO⟩
  iapply (step_send_ag (part I) (summed I) K c 3 (0) (off2_eq c) rfl (sem_eq2 3) (sem_off1' c)) $$ [HS3 HP3 HO T3 U3 V3 W3]
  · isplitr; · iexact HI
    isplitl [HS3]; · iexact HS3
    isplitl [HP3]; · iexact HP3
    isplitl [HO]; · iexact HO
    isplitl [T3]; · iexact T3
    isplitl [U3]; · iexact U3
    isplitl [V3]; · iexact V3
    iexact W3
  iintro ⟨C3, HO⟩
  iapply (step_wait (part I) (summed I) K c 3 0 0 (lv_le3 c 0) (above_zero 3) (sem_eq3 0) (dst := slotM mAg ![0, 0, 0] (slot_inb 0)) rfl) $$ [C0 HO A0]
  · isplitr; · iexact HI
    isplitr; · iexact HL
    isplitl [C0]; · iexact C0
    isplitl [HO]; · iexact HO
    iexact A0
  iintro ⟨HO, A0, D0⟩
  ihave D0 := (Entails.of_eq (dmaPay3_eq I c 0)) $$ D0
  iapply (step_load_slot' mAg _ _ c 0 rfl (summed I 0)) $$ D0
  iintro D0
  iapply (step_out_any A I c 0 _) $$ HY
  iintro %_ HY
  iapply (step_out A I c 0 (n := 0) rfl rfl rfl) $$ HY
  iintro HY
  iapply (step_ret c)
  iapply Hk
  isplitl [HO]; · iexact HO
  isplitl [C2]; · iexact C2
  isplitl [C3]; · iexact C3
  isplitl [A0]; · iexact A0
  isplitl [D0]; · iexact D0
  iexact HY

/-- Part 12: chunks 1 and 2 of the result. -/
theorem part12_run (v2 : BitVec 32) (Q : _ → sProp 𝕄) :
    iprop(J I K
        ∗ owing c 0
        ∗ unwaited c 3 1
        ∗ unwaited c 3 2
        ∗ outUpTo A I c 1
        ∗ (iprop(owing c 0
          ∗ atPos ER (cell c 3 1) (0 + 1) ∅ 0
          ∗ atPos ER (cell c 3 2) (0 + 1) ∅ 0
          ∗ owns (c : Thread nD τ) (slot mAg 1) fullShare (summed I 1)
          ∗ owns (c : Thread nD τ) (slot mAg 2) fullShare (summed I 2)
          ∗ outUpTo A I c 3) -∗ Q ⟨Scalar.muli v2 1#32, 0#32⟩))
      ⊢ wpp c (kp12 A v2) Q := by
  unfold kp12
  rw [k0_part12_eq_skeleton]
  simp only [k0_part12_skel, semSignalWord, semWaitWord, Prog.lift, Prog.bind_op, Prog.bind_ret, Prog.pure_eq_ret, wp_deviceId]
  unfold unwaited
  iintro ⟨⟨#HI, #HL⟩, HO, ⟨C1, A1⟩, ⟨C2, A2⟩, HY, Hk⟩
  iapply (step_wait (part I) (summed I) K c 3 1 0 (lv_le3 c 1) (above_zero 3) (sem_eq3 1) (dst := slotM mAg ![1, 0, 0] (slot_inb 1)) rfl) $$ [C1 HO A1]
  · isplitr; · iexact HI
    isplitr; · iexact HL
    isplitl [C1]; · iexact C1
    isplitl [HO]; · iexact HO
    iexact A1
  iintro ⟨HO, A1, D1⟩
  ihave D1 := (Entails.of_eq (dmaPay3_eq I c 1)) $$ D1
  iapply (step_load_slot' mAg _ _ c 1 rfl (summed I 1)) $$ D1
  iintro D1
  iapply (step_out_any A I c 1 _) $$ HY
  iintro %_ HY
  iapply (step_out A I c 1 (n := 1) rfl rfl rfl) $$ HY
  iintro HY
  iapply (step_wait (part I) (summed I) K c 3 2 0 (lv_le3 c 2) (above_zero 3) (sem_eq3 2) (dst := slotM mAg ![2, 0, 0] (slot_inb 2)) rfl) $$ [C2 HO A2]
  · isplitr; · iexact HI
    isplitr; · iexact HL
    isplitl [C2]; · iexact C2
    isplitl [HO]; · iexact HO
    iexact A2
  iintro ⟨HO, A2, D2⟩
  ihave D2 := (Entails.of_eq (dmaPay3_eq I c 2)) $$ D2
  iapply (step_load_slot' mAg _ _ c 2 rfl (summed I 2)) $$ D2
  iintro D2
  iapply (step_out_any A I c 2 _) $$ HY
  iintro %_ HY
  iapply (step_out A I c 2 (n := 2) rfl rfl rfl) $$ HY
  iintro HY
  iapply (step_ret c)
  iapply Hk
  isplitl [HO]; · iexact HO
  isplitl [A1]; · iexact A1
  isplitl [A2]; · iexact A2
  isplitl [D1]; · iexact D1
  isplitl [D2]; · iexact D2
  iexact HY

/-- Part 13: chunk 3 of the result; the sources of shares 0 and 1 back. -/
theorem part13_run (v384 c0 : BitVec 32) (Q : _ → sProp 𝕄) :
    iprop(J I K
        ∗ owing c 0
        ∗ unwaited c 3 3
        ∗ unwaited c 0 0
        ∗ unwaited c 0 1
        ∗ outUpTo A I c 3
        ∗ (iprop(owing c 0
          ∗ atPos ER (cell c 3 3) (0 + 1) ∅ 0
          ∗ atPos ER (cell c 0 0) (0 + 1) ∅ 0
          ∗ atPos ER (cell c 0 1) (0 + 1) ∅ 0
          ∗ owns (c : Thread nD τ) (slot mAg 3) fullShare (summed I 3)
          ∗ anyAt c (slot mSb 0)
          ∗ anyAt c (slot mSb 1)
          ∗ outUpTo A I c 4) -∗ Q ⟨⟩))
      ⊢ wpp c (kp13 A c v384 c0) Q := by
  unfold kp13
  rw [k0_part13_eq_skeleton]
  simp only [k0_part13_skel, semSignalWord, semWaitWord, Prog.lift, Prog.bind_op, Prog.bind_ret, Prog.pure_eq_ret, wp_deviceId]
  unfold unwaited
  iintro ⟨⟨#HI, #HL⟩, HO, ⟨C3, A3⟩, ⟨C0, A0⟩, ⟨C1, A1⟩, HY, Hk⟩
  iapply (step_wait (part I) (summed I) K c 3 3 0 (lv_le3 c 3) (above_zero 3) (sem_eq3 3) (dst := slotM mAg ![3, 0, 0] (slot_inb 3)) rfl) $$ [C3 HO A3]
  · isplitr; · iexact HI
    isplitr; · iexact HL
    isplitl [C3]; · iexact C3
    isplitl [HO]; · iexact HO
    iexact A3
  iintro ⟨HO, A3, D3⟩
  ihave D3 := (Entails.of_eq (dmaPay3_eq I c 3)) $$ D3
  iapply (step_load_slot' mAg _ _ c 3 rfl (summed I 3)) $$ D3
  iintro D3
  iapply (step_out_any A I c 3 _) $$ HY
  iintro %_ HY
  iapply (step_out A I c 3 (n := 3) rfl rfl rfl) $$ HY
  iintro HY
  iapply (step_wait (part I) (summed I) K c 0 0 0 (lv_le0 c 0) (above_zero 0) (sem_eq0 0) (dst := slotM mSb ![0, 0, 0] (slot_inb 0)) rfl) $$ [C0 HO A0]
  · isplitr; · iexact HI
    isplitr; · iexact HL
    isplitl [C0]; · iexact C0
    isplitl [HO]; · iexact HO
    iexact A0
  iintro ⟨HO, A0, D0⟩
  iapply (step_wait (part I) (summed I) K c 0 1 0 (lv_le0 c 1) (above_zero 0) (sem_eq0 1) (dst := slotM mSb ![1, 0, 0] (slot_inb 1)) rfl) $$ [C1 HO A1]
  · isplitr; · iexact HI
    isplitr; · iexact HL
    isplitl [C1]; · iexact C1
    isplitl [HO]; · iexact HO
    iexact A1
  iintro ⟨HO, A1, D1⟩
  ihave D0 := (Entails.of_eq (dmaPay0_eq I c 0)) $$ D0
  ihave D1 := (Entails.of_eq (dmaPay0_eq I c 1)) $$ D1
  iapply (step_ret c)
  iapply Hk
  isplitl [HO]; · iexact HO
  isplitl [A3]; · iexact A3
  isplitl [A0]; · iexact A0
  isplitl [A1]; · iexact A1
  isplitl [D3]; · iexact D3
  isplitl [D0]; · iexact D0
  isplitl [D1]; · iexact D1
  iexact HY

/-- Part 14: the sources of shares 2 and 3 back, and three quarters of the summed chunk. -/
theorem part14_run (Q : _ → sProp 𝕄) :
    iprop(J I K
        ∗ owing c 0
        ∗ unwaited c 0 2
        ∗ unwaited c 0 3
        ∗ unwaited c 2 0
        ∗ unwaited c 2 1
        ∗ unwaited c 2 2
        ∗ (iprop(owing c 0
          ∗ atPos ER (cell c 0 2) (0 + 1) ∅ 0
          ∗ atPos ER (cell c 0 3) (0 + 1) ∅ 0
          ∗ atPos ER (cell c 2 0) (0 + 1) ∅ 0
          ∗ atPos ER (cell c 2 1) (0 + 1) ∅ 0
          ∗ atPos ER (cell c 2 2) (0 + 1) ∅ 0
          ∗ anyAt c (slot mSb 2)
          ∗ anyAt c (slot mSb 3)
          ∗ owns (c : Thread nD τ) mAs (quarter 0) (summed I c)
          ∗ owns (c : Thread nD τ) mAs (quarter 1) (summed I c)
          ∗ owns (c : Thread nD τ) mAs (quarter 2) (summed I c)) -∗ Q ⟨⟩))
      ⊢ wpp c (kp14 A c) Q := by
  unfold kp14
  rw [k0_part14_eq_skeleton]
  simp only [k0_part14_skel, semSignalWord, semWaitWord, Prog.lift, Prog.bind_op, Prog.bind_ret, Prog.pure_eq_ret, wp_deviceId]
  unfold unwaited
  iintro ⟨⟨#HI, #HL⟩, HO, ⟨Cr2, Ar2⟩, ⟨Cr3, Ar3⟩, ⟨Ca0, Aa0⟩, ⟨Ca1, Aa1⟩, ⟨Ca2, Aa2⟩, Hk⟩
  iapply (step_wait (part I) (summed I) K c 0 2 0 (lv_le0 c 2) (above_zero 0) (sem_eq0 2) (dst := slotM mSb ![2, 0, 0] (slot_inb 2)) rfl) $$ [Cr2 HO Ar2]
  · isplitr; · iexact HI
    isplitr; · iexact HL
    isplitl [Cr2]; · iexact Cr2
    isplitl [HO]; · iexact HO
    iexact Ar2
  iintro ⟨HO, Ar2, Dr2⟩
  ihave Dr2 := (Entails.of_eq (dmaPay0_eq I c 2)) $$ Dr2
  iapply (step_wait (part I) (summed I) K c 0 3 0 (lv_le0 c 3) (above_zero 0) (sem_eq0 3) (dst := slotM mSb ![3, 0, 0] (slot_inb 3)) rfl) $$ [Cr3 HO Ar3]
  · isplitr; · iexact HI
    isplitr; · iexact HL
    isplitl [Cr3]; · iexact Cr3
    isplitl [HO]; · iexact HO
    iexact Ar3
  iintro ⟨HO, Ar3, Dr3⟩
  ihave Dr3 := (Entails.of_eq (dmaPay0_eq I c 3)) $$ Dr3
  iapply (step_wait (part I) (summed I) K c 2 0 0 (lv_le2 c 0) (above_zero 0) (sem_eq2 0) (dst := mAs) rfl) $$ [Ca0 HO Aa0]
  · isplitr; · iexact HI
    isplitr; · iexact HL
    isplitl [Ca0]; · iexact Ca0
    isplitl [HO]; · iexact HO
    iexact Aa0
  iintro ⟨HO, Aa0, Da0⟩
  ihave Da0 := (Entails.of_eq (dmaPay2_eq I c 0)) $$ Da0
  iapply (step_wait (part I) (summed I) K c 2 1 0 (lv_le2 c 1) (above_zero 0) (sem_eq2 1) (dst := mAs) rfl) $$ [Ca1 HO Aa1]
  · isplitr; · iexact HI
    isplitr; · iexact HL
    isplitl [Ca1]; · iexact Ca1
    isplitl [HO]; · iexact HO
    iexact Aa1
  iintro ⟨HO, Aa1, Da1⟩
  ihave Da1 := (Entails.of_eq (dmaPay2_eq I c 1)) $$ Da1
  iapply (step_wait (part I) (summed I) K c 2 2 0 (lv_le2 c 2) (above_zero 0) (sem_eq2 2) (dst := mAs) rfl) $$ [Ca2 HO Aa2]
  · isplitr; · iexact HI
    isplitr; · iexact HL
    isplitl [Ca2]; · iexact Ca2
    isplitl [HO]; · iexact HO
    iexact Aa2
  iintro ⟨HO, Aa2, Da2⟩
  ihave Da2 := (Entails.of_eq (dmaPay2_eq I c 2)) $$ Da2
  iapply (step_ret c)
  iapply Hk
  isplitl [HO]; · iexact HO
  isplitl [Ar2]; · iexact Ar2
  isplitl [Ar3]; · iexact Ar3
  isplitl [Aa0]; · iexact Aa0
  isplitl [Aa1]; · iexact Aa1
  isplitl [Aa2]; · iexact Aa2
  isplitl [Dr2]; · iexact Dr2
  isplitl [Dr3]; · iexact Dr3
  isplitl [Da0]; · iexact Da0
  isplitl [Da1]; · iexact Da1
  iexact Da2

end Cert.Rope

end
-- ==== Proof.Whole.lean ====
/- A device's whole kernel: from the opened semaphores to all of them closed at zero, with the result in place. -/
module

public import proofs.«01_k».proof.Proof.Body

@[expose] public section

noncomputable section

namespace Cert.Rope

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Stg) (I : Dev nD → Ins F) (K : GSem nD τ sig → ℕ) (c : Dev nD)

/-- A resource for each of four. -/
abbrev four (Φ : Fin 4 → sProp 𝕄) : sProp 𝕄 := iprop(Φ 0 ∗ Φ 1 ∗ Φ 2 ∗ Φ 3)

/-- What device `c` signals another device's barrier with. -/
def sigKit (d : Dev nD) : sProp 𝕄 := iprop(dutyTok ER (barCell d) 0 c ∗ barPay c d ∗ reached ER (barCell d) 0)

/-- The duties towards device `d`, and that the own send counters for it are open. -/
def toks (d : Dev nD) : sProp 𝕄 :=
  iprop(dutyTok ER (cell c 0 d) 0 c ∗ reached ER (cell c 0 d) 0 ∗ dutyTok ER (cell d 1 c) 0 c
    ∗ dutyTok ER (cell c 2 d) 0 c ∗ reached ER (cell c 2 d) 0 ∗ dutyTok ER (cell d 3 c) 0 c)

/-- The slots of device `d` and the duties towards it make what is spent to send to it. -/
theorem kits (d : Dev nD) : iprop(barPay d c ∗ toks c d) ⊢ (iprop(rsKit c d ∗ agKit c d) : sProp 𝕄) := by
  unfold barPay toks rsKit agKit
  iintro ⟨⟨Hr, Ha, R1, R3⟩, T0, R0, T1, T2, R2, T3⟩
  isplitl [Hr R1 T0 R0 T1]
  · isplitl [Hr]; · iexact Hr
    isplitl [T0]; · iexact T0
    isplitl [R0]; · iexact R0
    isplitl [T1]; · iexact T1
    iexact R1
  · isplitl [Ha]; · iexact Ha
    isplitl [T2]; · iexact T2
    isplitl [R2]; · iexact R2
    isplitl [T3]; · iexact T3
    iexact R3

theorem bigSep_four (Φ : Dev nD → sProp 𝕄) : bigSep Finset.univ Φ = four Φ := by
  rw [show (Finset.univ : Finset (Dev nD)) = insert 0 (insert 1 (insert 2 {3})) by decide,
    bigSep_insert (by decide), bigSep_insert (by decide), bigSep_insert (by decide), bigSep_singleton]
  rfl

theorem bigSep_self (Φ : Dev nD → sProp 𝕄) : iprop(Φ c ∗ bigSep (Finset.univ.erase c) Φ) = four Φ := by
  rw [← bigSep_four, ← Finset.insert_erase (Finset.mem_univ c), bigSep_insert (Finset.notMem_erase c _), Finset.insert_erase (Finset.mem_univ c)]
  rfl

/-- What a device starts its kernel from. -/
def bodyPre : sProp 𝕄 :=
  iprop(J I K ∗ owing c (O₀ c) ∗ sigKit c (nx c 1) ∗ sigKit c (nx c 2) ∗ sigKit c (nx c 3) ∗ barPay c c
    ∗ cred (tallyAt (barCell c) () 3) ∗ atPos ER (barCell c) 0 ∅ 0 ∗ stg A I c ∗ ctxUpTo I c 0 ∗ outUpTo A I c 0 ∗ anyAt c mAs
    ∗ four (fun j => anyAt c (slot mSb j)) ∗ four (fun j => toks c j)
    ∗ four (fun j => unwaited c 1 j) ∗ four (fun j => unwaited c 3 j)
    ∗ four (fun j => atPos ER (cell c 0 j) 0 ∅ 0) ∗ four (fun j => atPos ER (cell c 2 j) 0 ∅ 0))

/-- What it ends with: every counter back at zero, every buffer back, the result in place, nothing owed. -/
def bodyPost : sProp 𝕄 :=
  iprop(semVal (barCell c) 0 ∗ four (fun j => semVal (cell c 0 j) 0) ∗ four (fun j => semVal (cell c 1 j) 0)
    ∗ four (fun j => semVal (cell c 2 j) 0) ∗ four (fun j => semVal (cell c 3 j) 0)
    ∗ stg A I c ∗ ctxUpTo I c 8 ∗ outUpTo A I c 4 ∗ anyAt c mAs
    ∗ four (fun j => anyAt c (slot mSb j)) ∗ four (fun j => anyAt c (slot mRs j)) ∗ four (fun j => anyAt c (slot mAg j)) ∗ owing c 0)

theorem close (P : Dev nD → Dev nD → S128x768.Idx → Elt F .bf16) (R : Dev nD → S128x768.Idx → Elt F .bf16) (κ : ℕ) (g : GSem nD τ sig) :
    iprop(cellInv ER (sched P R) κ g ∗ atPos ER g (0 + 1) ∅ 0) ⊢ (|={Set.univ}=> semVal g 0 : sProp 𝕄) :=
  Rounds.cell_close ER (sched P R) (Set.mem_univ κ) id (duties_later P R g)

/-- A program in sequence. -/
theorem step_bind {α β : Type} (p : Prog (TpuEff nD τ sig (Elt F) Λ₀ .tc) α) (k : α → Prog (TpuEff nD τ sig (Elt F) Λ₀ .tc) β) (Q : β → sProp 𝕄) :
    wpp c p (fun a => wpp c (k a) Q) ⊢ wpp c (p >>= k) Q := by
  unfold wpp
  rw [wp_bind]

theorem any_of (d : Dev nD) (M : Memref sig .tc .vmem S128x768 .bf16) (X : S128x768.Idx → Elt F .bf16) :
    (owns (d : Thread nD τ) M fullShare X : sProp 𝕄) ⊢ anyAt d M := by
  unfold anyAt
  iintro H
  iexists X
  iexact H

set_option maxHeartbeats 1600000 in
/-- The whole kernel. -/
theorem body_run (Q : PUnit → sProp 𝕄) :
    iprop(bodyPre A I K c ∗ (bodyPost A I c -∗ Q ⟨⟩)) ⊢ wpp c (kbody A) Q := by
  unfold kbody cc0_body bodyPre sigKit
  iintro ⟨⟨⟨#HI, #HL⟩, HO, G1, G2, G3, HB, HcB, HaB, HG, HX, HY, HS, ⟨S0, S1, S2, S3⟩, ⟨T0, T1, T2, T3⟩, ⟨U0, U1, U2, U3⟩, ⟨V0, V1, V2, V3⟩, ⟨P0, P1, P2, P3⟩, ⟨R0, R1, R2, R3⟩⟩, Hk⟩
  iapply (step_bind c _ _ Q)
  iapply (part1_run A I K c _)
  isplitr
  · isplitr; · iexact HI
    iexact HL
  isplitl [HO]; · iexact HO
  isplitl [G1]; · iexact G1
  isplitl [G2]; · iexact G2
  isplitl [G3]; · iexact G3
  isplitl [HcB]; · iexact HcB
  isplitl [HaB]; · iexact HaB
  isplitl [HG]; · iexact HG
  iintro ⟨HO, HaB, HE, HG⟩
  try dsimp only
  ihave HE := (show iprop(barPay c c ∗ bigSep (Finset.univ.erase c) (fun d => barPay d c)) ⊢ four (fun d => barPay (F := F) d c) from
    Entails.of_eq (bigSep_self c (fun d => barPay (F := F) d c))) $$ [HB HE]
  · isplitl [HB]; · iexact HB
    iexact HE
  icases HE with ⟨E0, E1, E2, E3⟩
  ihave T0 := (kits (F := F) c 0) $$ [E0 T0]
  · isplitl [E0]; · iexact E0
    iexact T0
  icases T0 with ⟨T0, W0⟩
  ihave T1 := (kits (F := F) c 1) $$ [E1 T1]
  · isplitl [E1]; · iexact E1
    iexact T1
  icases T1 with ⟨T1, W1⟩
  ihave T2 := (kits (F := F) c 2) $$ [E2 T2]
  · isplitl [E2]; · iexact E2
    iexact T2
  icases T2 with ⟨T2, W2⟩
  ihave T3 := (kits (F := F) c 3) $$ [E3 T3]
  · isplitl [E3]; · iexact E3
    iexact T3
  icases T3 with ⟨T3, W3⟩
  iapply (step_bind c _ _ Q)
  iapply (part2_run A I c _)
  isplitl [HG]; · iexact HG
  iintro HG
  try dsimp only
  iapply (step_bind c _ _ Q)
  iapply (part3_run A I c _)
  isplitl [HX]; · iexact HX
  iintro HX
  try dsimp only
  iapply (step_bind c _ _ Q)
  iapply (part4_run A I c _)
  isplitl [HX]; · iexact HX
  isplitl [S0]; · iexact S0
  iintro ⟨HX, S0⟩
  try dsimp only
  iapply (step_bind c _ _ Q)
  iapply (part5_run A I K c _)
  isplitr
  · isplitr; · iexact HI
    iexact HL
  isplitl [HO]; · iexact HO
  isplitl [HX]; · iexact HX
  isplitl [S0]; · iexact S0
  isplitl [S1]; · iexact S1
  isplitl [T0]; · iexact T0
  isplitl [T1]; · iexact T1
  iintro ⟨HO, HX, C0, C1⟩
  try dsimp only
  iapply (step_bind c _ _ Q)
  iapply (part6_run A I c _)
  isplitl [HX]; · iexact HX
  iintro HX
  try dsimp only
  iapply (step_bind c _ _ Q)
  iapply (part7_run A I K c _)
  isplitr
  · isplitr; · iexact HI
    iexact HL
  isplitl [HO]; · iexact HO
  isplitl [HX]; · iexact HX
  isplitl [S2]; · iexact S2
  isplitl [T2]; · iexact T2
  iintro ⟨HO, HX, C2⟩
  try dsimp only
  iapply (step_bind c _ _ Q)
  iapply (part8_run A I K c _ _)
  isplitr
  · isplitr; · iexact HI
    iexact HL
  isplitl [HO]; · iexact HO
  isplitl [S3]; · iexact S3
  isplitl [T3]; · iexact T3
  isplitl [U0]; · iexact U0
  iintro ⟨HO, C3, U0, D0⟩
  try dsimp only
  iapply (step_bind c _ _ Q)
  iapply (part9_run A I K c _ _)
  isplitr
  · isplitr; · iexact HI
    iexact HL
  isplitl [HO]; · iexact HO
  isplitl [D0]; · iexact D0
  isplitl [U1]; · iexact U1
  isplitl [U2]; · iexact U2
  isplitl [U3]; · iexact U3
  iintro ⟨HO, U1, U2, U3, D0, D1, D2, D3⟩
  try dsimp only
  iapply (step_bind c _ _ Q)
  iapply (part10_run A I K c _)
  isplitr
  · isplitr; · iexact HI
    iexact HL
  isplitl [HO]; · iexact HO
  isplitl [D3]; · iexact D3
  isplitl [HS]; · iexact HS
  isplitl [W0]; · iexact W0
  isplitl [W1]; · iexact W1
  iintro ⟨HO, D3, HS2, HS3, F0, F1⟩
  try dsimp only
  iapply (step_bind c _ _ Q)
  iapply (part11_run A I K c _ _)
  isplitr
  · isplitr; · iexact HI
    iexact HL
  isplitl [HO]; · iexact HO
  isplitl [HS2]; · iexact HS2
  isplitl [HS3]; · iexact HS3
  isplitl [W2]; · iexact W2
  isplitl [W3]; · iexact W3
  isplitl [V0]; · iexact V0
  isplitl [HY]; · iexact HY
  iintro ⟨HO, F2, F3, V0, E0, HY⟩
  try dsimp only
  iapply (step_bind c _ _ Q)
  iapply (part12_run A I K c _ _)
  isplitr
  · isplitr; · iexact HI
    iexact HL
  isplitl [HO]; · iexact HO
  isplitl [V1]; · iexact V1
  isplitl [V2]; · iexact V2
  isplitl [HY]; · iexact HY
  iintro ⟨HO, V1, V2, E1, E2, HY⟩
  try dsimp only
  iapply (step_bind c _ _ Q)
  iapply (part13_run A I K c _ _ _)
  isplitr
  · isplitr; · iexact HI
    iexact HL
  isplitl [HO]; · iexact HO
  isplitl [V3]; · iexact V3
  isplitl [C0 P0]
  · unfold unwaited; isplitl [C0]; · iexact C0
    iexact P0
  isplitl [C1 P1]
  · unfold unwaited; isplitl [C1]; · iexact C1
    iexact P1
  isplitl [HY]; · iexact HY
  iintro ⟨HO, V3, P0, P1, E3, S0, S1, HY⟩
  try dsimp only
  iapply (step_bind c _ _ Q)
  iapply (part14_run A I K c _)
  isplitr
  · isplitr; · iexact HI
    iexact HL
  isplitl [HO]; · iexact HO
  isplitl [C2 P2]
  · unfold unwaited; isplitl [C2]; · iexact C2
    iexact P2
  isplitl [C3 P3]
  · unfold unwaited; isplitl [C3]; · iexact C3
    iexact P3
  isplitl [F0 R0]
  · unfold unwaited; isplitl [F0]; · iexact F0
    iexact R0
  isplitl [F1 R1]
  · unfold unwaited; isplitl [F1]; · iexact F1
    iexact R1
  isplitl [F2 R2]
  · unfold unwaited; isplitl [F2]; · iexact F2
    iexact R2
  iintro ⟨HO, P2, P3, R0, R1, R2, S2, S3, HS0, HS1, HS2⟩
  try dsimp only
  simp only [Prog.lift, Prog.bind_op, Prog.bind_ret, Prog.pure_eq_ret]
  iapply (step_wait (part I) (summed I) K c 2 3 0 (lv_le2 c 3) (above_zero 0) (sem_eq2 3) (dst := mAs) rfl) $$ [F3 HO R3]
  · isplitr; · iexact HI
    isplitr; · iexact HL
    isplitl [F3]; · iexact F3
    isplitl [HO]; · iexact HO
    iexact R3
  iintro ⟨HO, R3, HS3⟩
  ihave HS3 := (Entails.of_eq (dmaPay2_eq I c 3)) $$ HS3
  ihave HS := (quarters_join c (summed I c)) $$ [HS0 HS1 HS2 HS3]
  · isplitl [HS0]; · iexact HS0
    isplitl [HS1]; · iexact HS1
    isplitl [HS2]; · iexact HS2
    iexact HS3
  unfold wpp
  rw [wp_ret]
  imod (close (part I) (summed I) (K (barCell c)) (barCell c)) $$ [HaB] with HaB
  · isplitr; · iapply (inv_bar (part I) (summed I) K c); iexact HI
    iexact HaB
  imod (close (part I) (summed I) (K (cell c 0 0)) (cell c 0 0)) $$ [P0] with P0
  · isplitr; · iapply (inv_dma (part I) (summed I) K c 0 0); iexact HI
    iexact P0
  imod (close (part I) (summed I) (K (cell c 0 1)) (cell c 0 1)) $$ [P1] with P1
  · isplitr; · iapply (inv_dma (part I) (summed I) K c 0 1); iexact HI
    iexact P1
  imod (close (part I) (summed I) (K (cell c 0 2)) (cell c 0 2)) $$ [P2] with P2
  · isplitr; · iapply (inv_dma (part I) (summed I) K c 0 2); iexact HI
    iexact P2
  imod (close (part I) (summed I) (K (cell c 0 3)) (cell c 0 3)) $$ [P3] with P3
  · isplitr; · iapply (inv_dma (part I) (summed I) K c 0 3); iexact HI
    iexact P3
  imod (close (part I) (summed I) (K (cell c 1 0)) (cell c 1 0)) $$ [U0] with U0
  · isplitr; · iapply (inv_dma (part I) (summed I) K c 1 0); iexact HI
    iexact U0
  imod (close (part I) (summed I) (K (cell c 1 1)) (cell c 1 1)) $$ [U1] with U1
  · isplitr; · iapply (inv_dma (part I) (summed I) K c 1 1); iexact HI
    iexact U1
  imod (close (part I) (summed I) (K (cell c 1 2)) (cell c 1 2)) $$ [U2] with U2
  · isplitr; · iapply (inv_dma (part I) (summed I) K c 1 2); iexact HI
    iexact U2
  imod (close (part I) (summed I) (K (cell c 1 3)) (cell c 1 3)) $$ [U3] with U3
  · isplitr; · iapply (inv_dma (part I) (summed I) K c 1 3); iexact HI
    iexact U3
  imod (close (part I) (summed I) (K (cell c 2 0)) (cell c 2 0)) $$ [R0] with R0
  · isplitr; · iapply (inv_dma (part I) (summed I) K c 2 0); iexact HI
    iexact R0
  imod (close (part I) (summed I) (K (cell c 2 1)) (cell c 2 1)) $$ [R1] with R1
  · isplitr; · iapply (inv_dma (part I) (summed I) K c 2 1); iexact HI
    iexact R1
  imod (close (part I) (summed I) (K (cell c 2 2)) (cell c 2 2)) $$ [R2] with R2
  · isplitr; · iapply (inv_dma (part I) (summed I) K c 2 2); iexact HI
    iexact R2
  imod (close (part I) (summed I) (K (cell c 2 3)) (cell c 2 3)) $$ [R3] with R3
  · isplitr; · iapply (inv_dma (part I) (summed I) K c 2 3); iexact HI
    iexact R3
  imod (close (part I) (summed I) (K (cell c 3 0)) (cell c 3 0)) $$ [V0] with V0
  · isplitr; · iapply (inv_dma (part I) (summed I) K c 3 0); iexact HI
    iexact V0
  imod (close (part I) (summed I) (K (cell c 3 1)) (cell c 3 1)) $$ [V1] with V1
  · isplitr; · iapply (inv_dma (part I) (summed I) K c 3 1); iexact HI
    iexact V1
  imod (close (part I) (summed I) (K (cell c 3 2)) (cell c 3 2)) $$ [V2] with V2
  · isplitr; · iapply (inv_dma (part I) (summed I) K c 3 2); iexact HI
    iexact V2
  imod (close (part I) (summed I) (K (cell c 3 3)) (cell c 3 3)) $$ [V3] with V3
  · isplitr; · iapply (inv_dma (part I) (summed I) K c 3 3); iexact HI
    iexact V3
  imodintro
  iapply Hk
  unfold bodyPost
  isplitl [HaB]; · iexact HaB
  isplitl [P0 P1 P2 P3]
  · isplitl [P0]; · iexact P0
    isplitl [P1]; · iexact P1
    isplitl [P2]; · iexact P2
    iexact P3
  isplitl [U0 U1 U2 U3]
  · isplitl [U0]; · iexact U0
    isplitl [U1]; · iexact U1
    isplitl [U2]; · iexact U2
    iexact U3
  isplitl [R0 R1 R2 R3]
  · isplitl [R0]; · iexact R0
    isplitl [R1]; · iexact R1
    isplitl [R2]; · iexact R2
    iexact R3
  isplitl [V0 V1 V2 V3]
  · isplitl [V0]; · iexact V0
    isplitl [V1]; · iexact V1
    isplitl [V2]; · iexact V2
    iexact V3
  isplitl [HG]; · iexact HG
  isplitl [HX]; · iexact HX
  isplitl [HY]; · iexact HY
  isplitl [HS]; · iapply (any_of c mAs _); iexact HS
  isplitl [S0 S1 S2 S3]
  · isplitl [S0]; · iexact S0
    isplitl [S1]; · iexact S1
    isplitl [S2]; · iexact S2
    iexact S3
  isplitl [D0 D1 D2 D3]
  · isplitl [D0]; · iapply (any_of c _ _); iexact D0
    isplitl [D1]; · iapply (any_of c _ _); iexact D1
    isplitl [D2]; · iapply (any_of c _ _); iexact D2
    iapply (any_of c _ _); iexact D3
  isplitl [E0 E1 E2 E3]
  · isplitl [E0]; · iapply (any_of c _ _); iexact E0
    isplitl [E1]; · iapply (any_of c _ _); iexact E1
    isplitl [E2]; · iapply (any_of c _ _); iexact E2
    iapply (any_of c _ _); iexact E3
  iexact HO

end Cert.Rope

end
-- ==== Proof.Region.lean ====
/- The kernel call of one device: its buffers cut into slots and joined again, and the obligation its body meets. -/
module

public import proofs.«01_k».proof.Proof.Whole
public import Idealize.ShloMosaic.Lib.Ring
public import Idealize.ShloMosaic.Lib.Pipeline.RegionTalk

@[expose] public section

noncomputable section

namespace Cert.Rope

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-! ## Slots of a four-slot buffer -/

section Slots

variable (M : Memref sig .tc .vmem S4x128x768 .bf16)

/-- The elements of slot `j`. -/
def slotSet (j : Fin 4) : Finset M.view.ty.Idx := (slot M j).view.set

theorem mem_slotSet (j : Fin 4) (y : S4x128x768.Idx) : M.view.emb y ∈ slotSet M j ↔ (y 0).val = j.val := by
  unfold slotSet
  rw [slotM_set]
  have h0 : (M.access (slotR ![j.val, 0, 0] (slot_inb j))).set = (M.view.slice (slotR ![j.val, 0, 0] (slot_inb j))).set := rfl
  rw [h0, View.set_slice, Finset.mem_map' M.view.emb, Rect.mem_set_unit]
  have h1 : (y 1).val < 128 := (y 1).isLt
  have h2 : (y 2).val < 768 := (y 2).isLt
  constructor
  · intro h
    have h' : j.val ≤ (y 0).val ∧ (y 0).val < j.val + 1 := h 0
    omega
  · intro h a
    match a with
    | 0 => exact (show j.val ≤ (y 0).val ∧ (y 0).val < j.val + 1 by omega)
    | 1 => exact (show 0 ≤ (y 1).val ∧ (y 1).val < 0 + 128 by omega)
    | 2 => exact (show 0 ≤ (y 2).val ∧ (y 2).val < 0 + 768 by omega)

variable (hM : M.view.set = Finset.univ)

include hM in
theorem slots_cover : Finset.univ.biUnion (slotSet M) = Finset.univ := by
  ext i
  simp only [Finset.mem_biUnion, Finset.mem_univ, true_and, iff_true]
  have hi : i ∈ M.view.set := by rw [hM]; exact Finset.mem_univ i
  obtain ⟨y, -, rfl⟩ := Finset.mem_map.mp hi
  exact ⟨⟨(y 0).val, (y 0).isLt⟩, (mem_slotSet M _ y).mpr rfl⟩

include hM in
theorem slots_disjoint (j j' : Fin 4) (h : j ≠ j') : Disjoint (slotSet M j) (slotSet M j') := by
  rw [Finset.disjoint_left]
  intro i hi hi'
  have hu : i ∈ M.view.set := by rw [hM]; exact Finset.mem_univ i
  obtain ⟨y, -, rfl⟩ := Finset.mem_map.mp hu
  exact h (Fin.ext (((mem_slotSet M j y).mp hi).symm.trans ((mem_slotSet M j' y).mp hi')))

/-- Slot `j` of the buffer at contents `f`. -/
abbrev slotAt (c : Dev nD) (j : Fin 4) (f : Buf (Elt F) (M.view.loc (c : Thread nD τ))) : sProp 𝕄 :=
  M.view.loc (c : Thread nD τ) ↦[slotSet M j]{fullShare} f

theorem any_of_slot (c : Dev nD) (j : Fin 4) (f : Buf (Elt F) (M.view.loc (c : Thread nD τ))) :
    slotAt M c j f ⊢ (anyAt c (slot M j) : sProp 𝕄) := by
  unfold anyAt owns
  iintro H
  iexists ((slot M j).view.read (Elt F) f)
  iexists f
  isplitr; · ipureintro; rfl
  iexact H

theorem slot_of_any (c : Dev nD) (j : Fin 4) :
    (anyAt c (slot M j) : sProp 𝕄) ⊢ iprop(∃ f, slotAt (F := F) M c j f) := by
  unfold anyAt owns
  iintro ⟨%X, %f, -, H⟩
  iexists f
  iexact H

include hM in
/-- A four-slot buffer held whole is its slots; -/
theorem slots_split (c : Dev nD) (f : Buf (Elt F) (M.view.loc (c : Thread nD τ))) :
    (M.view.loc (c : Thread nD τ) ↦{fullShare} f : sProp 𝕄) ⊢ four (fun j => anyAt c (slot M j)) := by
  rw [Ring.pointsTo_blocks (ℓ := M.view.loc (c : Thread nD τ)) (q := fullShare) (slotSet M) (slots_disjoint M hM) (slots_cover M hM) f]
  refine (Entails.of_eq (bigSep_four (fun j : Dev nD => slotAt M c j f))).trans ?_
  iintro ⟨H0, H1, H2, H3⟩
  isplitl [H0]; · iapply (any_of_slot M c 0 f); iexact H0
  isplitl [H1]; · iapply (any_of_slot M c 1 f); iexact H1
  isplitl [H2]; · iapply (any_of_slot M c 2 f); iexact H2
  iapply (any_of_slot M c 3 f); iexact H3

include hM in
/-- and its slots joined are the buffer. -/
theorem slots_join (c : Dev nD) :
    (four (fun j => anyAt c (slot M j)) : sProp 𝕄)
      ⊢ iprop(∃ f : Buf (Elt F) (M.view.loc (c : Thread nD τ)), M.view.loc (c : Thread nD τ) ↦{fullShare} f) := by
  iintro ⟨H0, H1, H2, H3⟩
  ihave H0 := (slot_of_any M c 0) $$ H0
  icases H0 with ⟨%f₀, H0⟩
  ihave H1 := (slot_of_any M c 1) $$ H1
  ihave H2 := (slot_of_any M c 2) $$ H2
  ihave H3 := (slot_of_any M c 3) $$ H3
  iapply (Ring.pointsTo_blocks_join_exists (ℓ := M.view.loc (c : Thread nD τ)) (q := fullShare) (slotSet M) (slots_disjoint M hM) (slots_cover M hM) f₀)
  iapply (Entails.of_eq (bigSep_four (fun j : Dev nD => iprop(∃ f, slotAt (F := F) M c j f))).symm)
  isplitl [H0]
  · iexists f₀; iexact H0
  isplitl [H1]; · iexact H1
  isplitl [H2]; · iexact H2
  iexact H3

end Slots

/-- The four devices, the ring from `c` on. -/
theorem four_ring (c : Dev nD) (Φ : Dev nD → sProp 𝕄) : four Φ = iprop(Φ (nx c 1) ∗ Φ (nx c 2) ∗ Φ (nx c 3) ∗ Φ c) := by
  rw [← bigSep_four, show (Finset.univ : Finset (Dev nD)) = insert (nx c 1) (insert (nx c 2) (insert (nx c 3) {c})) by revert c; decide,
    bigSep_insert (by revert c; decide), bigSep_insert (by revert c; decide), bigSep_insert (by revert c; decide), bigSep_singleton]
  rfl

/-! ## What a device enters its kernel with -/

/-- The right to signal device `d`'s barrier. -/
def sigTok (c d : Dev nD) : sProp 𝕄 := iprop(dutyTok ER (barCell d) 0 c ∗ reached ER (barCell d) 0)

/-- The counters on which device `c` receives from `d` are open. -/
def seen (c d : Dev nD) : sProp 𝕄 := iprop(reached ER (cell c 1 d) 0 ∗ reached ER (cell c 3 d) 0)

/-- The duties of device `c` towards device `d`, at the copies. -/
def duesTo (c d : Dev nD) : sProp 𝕄 :=
  iprop(dutyTok ER (cell c 0 d) 0 c ∗ dutyTok ER (cell d 1 c) 0 c ∗ dutyTok ER (cell c 2 d) 0 c ∗ dutyTok ER (cell d 3 c) 0 c)

variable (I : Dev nD → Ins F) (c : Dev nD)

/-- From the launch, before the kernel's own counters are open; -/
def Tk : sProp 𝕄 :=
  iprop(∃ K, invs (part I) (summed I) K ∗ atPos ER (barCell c) 0 ∅ 0 ∗ four (fun d => duesTo c d)
    ∗ (sigTok c (nx c 1) ∗ sigTok c (nx c 2) ∗ sigTok c (nx c 3))
    ∗ four (fun k => four (fun j => openTok ER (cell c k j)))
    ∗ cred (tallyAt (barCell c) () 3) ∗ four (fun j => cred (tallyAt (cell c 1 j) () N)) ∗ four (fun j => cred (tallyAt (cell c 3 j) () N)))

/-- and after. -/
def Xk : sProp 𝕄 :=
  iprop(∃ K, J I K ∗ atPos ER (barCell c) 0 ∅ 0 ∗ four (fun j => toks c j)
    ∗ (sigTok c (nx c 1) ∗ sigTok c (nx c 2) ∗ sigTok c (nx c 3)) ∗ cred (tallyAt (barCell c) () 3)
    ∗ four (fun j => unwaited c 1 j) ∗ four (fun j => unwaited c 3 j)
    ∗ four (fun j => atPos ER (cell c 0 j) 0 ∅ 0) ∗ four (fun j => atPos ER (cell c 2 j) 0 ∅ 0) ∗ four (fun j => seen c j))

/-- The kernel's own semaphores. -/
def osem (p : Fin 4 × Fin 4) : SemLoc sig := .dma (ds p.1 p.2)

theorem osem_facts : Pipeline.OwnSemFacts spec0 osem := by decide

theorem ownSems_eq : (Pipeline.ownSems0 osem c : sProp 𝕄) = four (fun k => four (fun j => semVal (cell c k j) 0)) := by
  unfold Pipeline.ownSems0
  rw [bigSep_univ_prod]
  refine (bigSep_four (fun k : Dev nD => bigSep Finset.univ fun j : Fin 4 => (semVal (cell c k j) 0 : sProp 𝕄))).trans ?_
  have h (k : Fin 4) : (bigSep Finset.univ fun j : Fin 4 => (semVal (cell c k j) 0 : sProp 𝕄)) = four (fun j => semVal (cell c k j) 0) :=
    bigSep_four (fun j : Dev nD => semVal (cell c k j) 0)
  simp only [four, h]

theorem open_one (K : GSem nD τ sig → ℕ) (k j : Fin 4) :
    iprop(invs (part I) (summed I) K ∗ openTok ER (cell c k j) ∗ semVal (cell c k j) 0)
      ⊢ (|={Set.univ}=> (atPos ER (cell c k j) 0 ∅ 0 ∗ reached ER (cell c k j) 0) : sProp 𝕄) := by
  iintro ⟨#HI, H⟩
  iapply (Rounds.cell_open ER (sched (part I) (summed I)) (g := cell c k j) (Set.mem_univ (K (cell c k j))))
  isplitr; · iapply (inv_dma (part I) (summed I) K c k j); iexact HI
  iexact H

theorem open_four (K : GSem nD τ sig → ℕ) (k : Fin 4) :
    iprop(invs (part I) (summed I) K ∗ four (fun j => openTok ER (cell c k j)) ∗ four (fun j => semVal (cell c k j) 0))
      ⊢ (|={Set.univ}=> (four (fun j => atPos ER (cell c k j) 0 ∅ 0) ∗ four (fun j => reached ER (cell c k j) 0)) : sProp 𝕄) := by
  iintro ⟨#HI, ⟨O0, O1, O2, O3⟩, ⟨S0, S1, S2, S3⟩⟩
  imod (open_one I c K k 0) $$ [O0 S0] with ⟨A0, R0⟩
  · isplitr; · iexact HI
    isplitl [O0]; · iexact O0
    iexact S0
  imod (open_one I c K k 1) $$ [O1 S1] with ⟨A1, R1⟩
  · isplitr; · iexact HI
    isplitl [O1]; · iexact O1
    iexact S1
  imod (open_one I c K k 2) $$ [O2 S2] with ⟨A2, R2⟩
  · isplitr; · iexact HI
    isplitl [O2]; · iexact O2
    iexact S2
  imod (open_one I c K k 3) $$ [O3 S3] with ⟨A3, R3⟩
  · isplitr; · iexact HI
    isplitl [O3]; · iexact O3
    iexact S3
  imodintro
  isplitl [A0 A1 A2 A3]
  · isplitl [A0]; · iexact A0
    isplitl [A1]; · iexact A1
    isplitl [A2]; · iexact A2
    iexact A3
  · isplitl [R0]; · iexact R0
    isplitl [R1]; · iexact R1
    isplitl [R2]; · iexact R2
    iexact R3

theorem toks_of (d : Dev nD) :
    iprop(duesTo c d ∗ reached ER (cell c 0 d) 0 ∗ reached ER (cell c 2 d) 0) ⊢ (toks c d : sProp 𝕄) := by
  unfold duesTo toks
  iintro ⟨⟨D0, D1, D2, D3⟩, R0, R2⟩
  isplitl [D0]; · iexact D0
  isplitl [R0]; · iexact R0
  isplitl [D1]; · iexact D1
  isplitl [D2]; · iexact D2
  isplitl [R2]; · iexact R2
  iexact D3

theorem unwaited_of (k j : Fin 4) : iprop(cred (tallyAt (cell c k j) () N) ∗ atPos ER (cell c k j) 0 ∅ 0) ⊢ (unwaited c k j : sProp 𝕄) := by
  unfold unwaited
  exact .rfl

/-- Two fours side by side. -/
theorem four_zip {Φ Ψ X : Fin 4 → sProp 𝕄} (h : ∀ j, iprop(Φ j ∗ Ψ j) ⊢ X j) : iprop(four Φ ∗ four Ψ) ⊢ four X := by
  iintro ⟨⟨A0, A1, A2, A3⟩, ⟨B0, B1, B2, B3⟩⟩
  isplitl [A0 B0]
  · iapply (h 0); isplitl [A0]; · iexact A0
    iexact B0
  isplitl [A1 B1]
  · iapply (h 1); isplitl [A1]; · iexact A1
    iexact B1
  isplitl [A2 B2]
  · iapply (h 2); isplitl [A2]; · iexact A2
    iexact B2
  iapply (h 3); isplitl [A3]; · iexact A3
  iexact B3

/-- Entering: every counter of the kernel opened. -/
theorem hopen : iprop(Tk I c ∗ Pipeline.ownSems0 osem c ∗ levAts L lv) ⊢ (|={Set.univ}=> Xk I c : sProp 𝕄) := by
  rw [ownSems_eq]
  unfold Tk Xk
  iintro ⟨⟨%K, #HI, Hat, HD, HS, ⟨O0, O1, O2, O3⟩, Hc, Hc1, Hc3⟩, ⟨S0, S1, S2, S3⟩, #HL⟩
  imod (open_four I c K 0) $$ [O0 S0] with ⟨A0, R0⟩
  · isplitr; · iexact HI
    isplitl [O0]; · iexact O0
    iexact S0
  imod (open_four I c K 1) $$ [O1 S1] with ⟨A1, R1⟩
  · isplitr; · iexact HI
    isplitl [O1]; · iexact O1
    iexact S1
  imod (open_four I c K 2) $$ [O2 S2] with ⟨A2, R2⟩
  · isplitr; · iexact HI
    isplitl [O2]; · iexact O2
    iexact S2
  imod (open_four I c K 3) $$ [O3 S3] with ⟨A3, R3⟩
  · isplitr; · iexact HI
    isplitl [O3]; · iexact O3
    iexact S3
  imodintro
  iexists K
  isplitr
  · isplitr; · iexact HI
    iexact HL
  isplitl [Hat]; · iexact Hat
  isplitl [HD R0 R2]
  · iapply (four_zip (Φ := fun j => duesTo c j) (Ψ := fun j => iprop(reached ER (cell c 0 j) 0 ∗ reached ER (cell c 2 j) 0)) (X := fun j => toks c j) fun j => toks_of c j)
    isplitl [HD]; · iexact HD
    iapply (four_zip (Φ := fun j => reached ER (cell c 0 j) 0) (Ψ := fun j => reached ER (cell c 2 j) 0) fun j => .rfl)
    isplitl [R0]; · iexact R0
    iexact R2
  isplitl [HS]; · iexact HS
  isplitl [Hc]; · iexact Hc
  isplitl [Hc1 A1]
  · iapply (four_zip (Φ := fun j => cred (tallyAt (cell c 1 j) () N)) (Ψ := fun j => atPos ER (cell c 1 j) 0 ∅ 0) (X := fun j => unwaited c 1 j) fun j => unwaited_of c 1 j)
    isplitl [Hc1]; · iexact Hc1
    iexact A1
  isplitl [Hc3 A3]
  · iapply (four_zip (Φ := fun j => cred (tallyAt (cell c 3 j) () N)) (Ψ := fun j => atPos ER (cell c 3 j) 0 ∅ 0) (X := fun j => unwaited c 3 j) fun j => unwaited_of c 3 j)
    isplitl [Hc3]; · iexact Hc3
    iexact A3
  isplitl [A0]; · iexact A0
  isplitl [A2]; · iexact A2
  iapply (four_zip (Φ := fun j => reached ER (cell c 1 j) 0) (Ψ := fun j => reached ER (cell c 3 j) 0) (X := fun j => seen c j) fun j => by unfold seen; exact .rfl)
  isplitl [R1]; · iexact R1
  iexact R3

/-! ## The body's obligation -/

/-- The slots a device lends and that its counters are open, for one other device. -/
theorem barPay_of (d : Dev nD) : iprop((anyAt c (slot mRs d) ∗ anyAt c (slot mAg d)) ∗ seen c d) ⊢ (barPay c d : sProp 𝕄) := by
  unfold barPay seen
  iintro ⟨⟨H1, H2⟩, H3⟩
  isplitl [H1]; · iexact H1
  isplitl [H2]; · iexact H2
  iexact H3

theorem sigKit_of (d : Dev nD) : iprop(sigTok c d ∗ barPay c d) ⊢ (sigKit c d : sProp 𝕄) := by
  unfold sigTok sigKit
  iintro ⟨⟨H1, H2⟩, H3⟩
  isplitl [H1]; · iexact H1
  isplitl [H3]; · iexact H3
  iexact H2

/-- A buffer held whole, at contents not chosen. -/
abbrev bufAny (b : Ref sig .tc) : sProp 𝕄 := iprop(∃ f : Buf (Elt F) ((c : Thread nD τ).loc b), ((c : Thread nD τ).loc b) ↦{fullShare} f)

theorem buf_of_owns (b : Ref sig .tc) (X) : (owns (c : Thread nD τ) (Memref.whole b) fullShare X : sProp 𝕄) ⊢ bufAny c b := by
  rw [owns_whole]
  iintro H
  iexists X
  iexact H

variable (A : Stg)

/-- From what the kernel is entered with to what its body starts from. -/
theorem bodyPre_of :
    iprop(Xk I c ∗ (bufAny c cc0_scratch0 ∗ bufAny c cc0_scratch1 ∗ bufAny c cc0_scratch2 ∗ bufAny c cc0_scratch3 ∗ bufAny c cc0_scratch4)
        ∗ owing c (O₀ c) ∗ stg A I c ∗ ∃ X, owns (c : Thread nD τ) A.a10 fullShare X)
      ⊢ (iprop(∃ K, bodyPre A I K c) : sProp 𝕄) := by
  unfold Xk
  iintro ⟨⟨%K, HJ, Hat, Ht, ⟨G1, G2, G3⟩, Hc, U1, U3, P0, P2, HS⟩, ⟨⟨%f0, B0⟩, ⟨%f1, B1⟩, ⟨%f2, B2⟩, ⟨%f3, B3⟩, ⟨%f4, B4⟩⟩, HO, HG, ⟨%X, HX⟩⟩
  iexists K
  unfold bodyPre
  isplitl [HJ]; · iexact HJ
  isplitl [HO]; · iexact HO
  ihave B1 := (slots_split (F := F) mSb (View.set_whole _) c f1) $$ [B1]
  · iexact B1
  ihave B3 := (slots_split (F := F) mRs (View.set_whole _) c f3) $$ [B3]
  · iexact B3
  ihave B4 := (slots_split (F := F) mAg (View.set_whole _) c f4) $$ [B4]
  · iexact B4
  ihave HB := (four_zip (Φ := fun j => iprop(anyAt c (slot mRs j) ∗ anyAt c (slot mAg j))) (Ψ := fun j => seen c j) (X := fun j => barPay c j) fun j => barPay_of c j) $$ [B3 B4 HS]
  · isplitr [HS]
    · iapply (four_zip (Φ := fun j => anyAt c (slot mRs j)) (Ψ := fun j => anyAt c (slot mAg j)) fun j => .rfl)
      isplitl [B3]; · iexact B3
      iexact B4
    · iexact HS
  ihave HB := (Entails.of_eq (four_ring c (fun d => barPay (F := F) c d))) $$ HB
  icases HB with ⟨Y1, Y2, Y3, Y0⟩
  isplitl [G1 Y1]
  · iapply (sigKit_of c (nx c 1)); isplitl [G1]; · iexact G1
    iexact Y1
  isplitl [G2 Y2]
  · iapply (sigKit_of c (nx c 2)); isplitl [G2]; · iexact G2
    iexact Y2
  isplitl [G3 Y3]
  · iapply (sigKit_of c (nx c 3)); isplitl [G3]; · iexact G3
    iexact Y3
  isplitl [Y0]; · iexact Y0
  isplitl [Hc]; · iexact Hc
  isplitl [Hat]; · iexact Hat
  isplitl [HG]; · iexact HG
  isplitl [B0]
  · unfold ctxUpTo filled
    iexists f0
    isplitr; · ipureintro; exact fun i h => absurd h (Nat.not_lt_zero _)
    rw [owns_whole]; iexact B0
  isplitl [HX]
  · unfold outUpTo filled
    iexists X
    isplitr; · ipureintro; exact fun i h => absurd h (Nat.not_lt_zero _)
    iexact HX
  isplitl [B2]
  · unfold anyAt; iexists f2; rw [owns_whole]; iexact B2
  isplitl [B1]; · iexact B1
  isplitl [Ht]; · iexact Ht
  isplitl [U1]; · iexact U1
  isplitl [U3]; · iexact U3
  isplitl [P0]; · iexact P0
  iexact P2

/-- From what the body ends with: the result in place, every buffer whole again, every counter at zero. -/
theorem bodyPost_out :
    (bodyPost A I c : sProp 𝕄)
      ⊢ iprop((bufAny c cc0_scratch0 ∗ bufAny c cc0_scratch1 ∗ bufAny c cc0_scratch2 ∗ bufAny c cc0_scratch3 ∗ bufAny c cc0_scratch4)
        ∗ semVal (barCell c) 0 ∗ four (fun k => four (fun j => semVal (cell c k j) 0))
        ∗ owing c 0 ∗ stg A I c ∗ owns (c : Thread nD τ) A.a10 fullShare (out I)) := by
  unfold bodyPost
  iintro ⟨HB, Z0, Z1, Z2, Z3, HG, HX, HY, HS, S, R, G, HO⟩
  unfold ctxUpTo outUpTo filled
  ihave HS := (show (anyAt c mAs : sProp 𝕄) ⊢ iprop(∃ X, owns (c : Thread nD τ) mAs fullShare X) by unfold anyAt; exact .rfl) $$ HS
  icases HS with ⟨%f2, HS⟩
  icases HX with ⟨%X, -, HX⟩
  icases HY with ⟨%Y, %hY, HY⟩
  rw [show Y = out I from funext fun i => hY i (by
    have h0 : (i 0).val < 2 := (i 0).isLt
    have h1 : (i 1).val < 256 := (i 1).isLt
    show 2 * (i 0).val + (i 1).val / 128 < 4
    omega)]
  isplitl [HX HS S R G]
  · isplitl [HX]; · iapply (buf_of_owns c cc0_scratch0 X); iexact HX
    isplitl [S]; · iapply (slots_join (F := F) mSb (View.set_whole _) c); iexact S
    isplitl [HS]; · iapply (buf_of_owns c cc0_scratch2 f2); iexact HS
    isplitl [R]; · iapply (slots_join (F := F) mRs (View.set_whole _) c); iexact R
    iapply (slots_join (F := F) mAg (View.set_whole _) c); iexact G
  isplitl [HB]; · iexact HB
  isplitl [Z0 Z1 Z2 Z3]
  · isplitl [Z0]; · iexact Z0
    isplitl [Z1]; · iexact Z1
    isplitl [Z2]; · iexact Z2
    iexact Z3
  isplitl [HO]; · iexact HO
  isplitl [HG]; · iexact HG
  iexact HY

end Cert.Rope

end
-- ==== Proof.Call.lean ====
/- The kernel call as a region of the run: its proof data, its body's obligation, entering and leaving it. -/
module

public import proofs.«01_k».proof.Proof.Region
public import Idealize.ShloMosaic.Lib.Pipeline.FrameTail
public import Idealize.ShloMosaic.Lib.Pipeline.RegionArraysS
public import Idealize.ShloMosaic.Lib.Pipeline.Value

@[expose] public section

noncomputable section

namespace Cert.Rope

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-- A device's buffers at launch, and when the kernel is called. -/
abbrev V₀ (c : Dev nD) : Valuation τ sig (Elt F) := fun b => m (c, b)
abbrev V₁ (c : Dev nD) : Valuation τ sig (Elt F) := StableHlo.after hostOps0 (V₀ m c)

/-- The blocks device `c`'s kernel reads. -/
def ins (c : Dev nD) : Ins F :=
  ⟨iblk m c 0 t0_0, iblk m c 1 t0_0, iblk m c 2 t0_0, iblk m c 3 t0_0, iblk m c 4 t0_0,
    iblk m c 5 t0_0, iblk m c 6 t0_0, iblk m c 7 t0_0, iblk m c 8 t0_0, iblk m c 9 t0_0⟩

/-- The buffers they are staged in. -/
def stgs : Stg :=
  ⟨st0_0 t0_0, stage_whole0 0 _, st0_1 t0_0, stage_whole0 1 _, st0_2 t0_0, stage_whole0 2 _, st0_3 t0_0, stage_whole0 3 _,
    st0_4 t0_0, stage_whole0 4 _, st0_5 t0_0, stage_whole0 5 _, st0_6 t0_0, stage_whole0 6 _, st0_7 t0_0, stage_whole0 7 _,
    st0_8 t0_0, stage_whole0 8 _, st0_9 t0_0, stage_whole0 9 _, st0_10 t0_0, stage_whole0 10 _⟩

abbrev scratch (c : Dev nD) : sProp 𝕄 :=
  iprop(bufAny c cc0_scratch0 ∗ bufAny c cc0_scratch1 ∗ bufAny c cc0_scratch2 ∗ bufAny c cc0_scratch3 ∗ bufAny c cc0_scratch4)

/-- The call's invariant before its one point, and after. -/
def before (c : Dev nD) : sProp 𝕄 := iprop(Xk (ins m) c ∗ scratch c ∗ ∃ r, prngReg c r)
def afterward (c : Dev nD) : sProp 𝕄 :=
  iprop(semVal (barCell c) 0 ∗ four (fun k => four (fun j => semVal (cell c k j) 0)) ∗ scratch c ∗ ∃ r, prngReg c r)

def dat (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => out (ins m)
  Φ t := if t.val = 0 then before m c else afterward c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem dat_A (c : Dev nD) (w : Fin 11) : (dat m c).A w = V m c (Pipeline.arrRef spec0 w) := rfl
theorem after_0 (c : Dev nD) (t : Fin cfg0.N) : (dat m c).after 0 t = iblk m c 0 t := rfl
theorem before_0 (c : Dev nD) (t : Fin cfg0.N) (d) : (dat m c).before 0 t d = iblk m c 0 t :=
  ((dat m c).before_in_eq_fetched 0 rfl (fun _ => rfl) (fun _ _ _ => rfl)
    (fun t => by rw [after_0]; unfold Dat.blockOf iblk; rw [dat_A]; try rfl) t d).trans
    (by unfold Dat.fetched Dat.blockOf iblk; rw [dat_A]; try rfl)
theorem after_1 (c : Dev nD) (t : Fin cfg0.N) : (dat m c).after 1 t = iblk m c 1 t := rfl
theorem before_1 (c : Dev nD) (t : Fin cfg0.N) (d) : (dat m c).before 1 t d = iblk m c 1 t :=
  ((dat m c).before_in_eq_fetched 1 rfl (fun _ => rfl) (fun _ _ _ => rfl)
    (fun t => by rw [after_1]; unfold Dat.blockOf iblk; rw [dat_A]; try rfl) t d).trans
    (by unfold Dat.fetched Dat.blockOf iblk; rw [dat_A]; try rfl)
theorem after_2 (c : Dev nD) (t : Fin cfg0.N) : (dat m c).after 2 t = iblk m c 2 t := rfl
theorem before_2 (c : Dev nD) (t : Fin cfg0.N) (d) : (dat m c).before 2 t d = iblk m c 2 t :=
  ((dat m c).before_in_eq_fetched 2 rfl (fun _ => rfl) (fun _ _ _ => rfl)
    (fun t => by rw [after_2]; unfold Dat.blockOf iblk; rw [dat_A]; try rfl) t d).trans
    (by unfold Dat.fetched Dat.blockOf iblk; rw [dat_A]; try rfl)
theorem after_3 (c : Dev nD) (t : Fin cfg0.N) : (dat m c).after 3 t = iblk m c 3 t := rfl
theorem before_3 (c : Dev nD) (t : Fin cfg0.N) (d) : (dat m c).before 3 t d = iblk m c 3 t :=
  ((dat m c).before_in_eq_fetched 3 rfl (fun _ => rfl) (fun _ _ _ => rfl)
    (fun t => by rw [after_3]; unfold Dat.blockOf iblk; rw [dat_A]; try rfl) t d).trans
    (by unfold Dat.fetched Dat.blockOf iblk; rw [dat_A]; try rfl)
theorem after_4 (c : Dev nD) (t : Fin cfg0.N) : (dat m c).after 4 t = iblk m c 4 t := rfl
theorem before_4 (c : Dev nD) (t : Fin cfg0.N) (d) : (dat m c).before 4 t d = iblk m c 4 t :=
  ((dat m c).before_in_eq_fetched 4 rfl (fun _ => rfl) (fun _ _ _ => rfl)
    (fun t => by rw [after_4]; unfold Dat.blockOf iblk; rw [dat_A]; try rfl) t d).trans
    (by unfold Dat.fetched Dat.blockOf iblk; rw [dat_A]; try rfl)
theorem after_5 (c : Dev nD) (t : Fin cfg0.N) : (dat m c).after 5 t = iblk m c 5 t := rfl
theorem before_5 (c : Dev nD) (t : Fin cfg0.N) (d) : (dat m c).before 5 t d = iblk m c 5 t :=
  ((dat m c).before_in_eq_fetched 5 rfl (fun _ => rfl) (fun _ _ _ => rfl)
    (fun t => by rw [after_5]; unfold Dat.blockOf iblk; rw [dat_A]; try rfl) t d).trans
    (by unfold Dat.fetched Dat.blockOf iblk; rw [dat_A]; try rfl)
theorem after_6 (c : Dev nD) (t : Fin cfg0.N) : (dat m c).after 6 t = iblk m c 6 t := rfl
theorem before_6 (c : Dev nD) (t : Fin cfg0.N) (d) : (dat m c).before 6 t d = iblk m c 6 t :=
  ((dat m c).before_in_eq_fetched 6 rfl (fun _ => rfl) (fun _ _ _ => rfl)
    (fun t => by rw [after_6]; unfold Dat.blockOf iblk; rw [dat_A]; try rfl) t d).trans
    (by unfold Dat.fetched Dat.blockOf iblk; rw [dat_A]; try rfl)
theorem after_7 (c : Dev nD) (t : Fin cfg0.N) : (dat m c).after 7 t = iblk m c 7 t := rfl
theorem before_7 (c : Dev nD) (t : Fin cfg0.N) (d) : (dat m c).before 7 t d = iblk m c 7 t :=
  ((dat m c).before_in_eq_fetched 7 rfl (fun _ => rfl) (fun _ _ _ => rfl)
    (fun t => by rw [after_7]; unfold Dat.blockOf iblk; rw [dat_A]; try rfl) t d).trans
    (by unfold Dat.fetched Dat.blockOf iblk; rw [dat_A]; try rfl)
theorem after_8 (c : Dev nD) (t : Fin cfg0.N) : (dat m c).after 8 t = iblk m c 8 t := rfl
theorem before_8 (c : Dev nD) (t : Fin cfg0.N) (d) : (dat m c).before 8 t d = iblk m c 8 t :=
  ((dat m c).before_in_eq_fetched 8 rfl (fun _ => rfl) (fun _ _ _ => rfl)
    (fun t => by rw [after_8]; unfold Dat.blockOf iblk; rw [dat_A]; try rfl) t d).trans
    (by unfold Dat.fetched Dat.blockOf iblk; rw [dat_A]; try rfl)
theorem after_9 (c : Dev nD) (t : Fin cfg0.N) : (dat m c).after 9 t = iblk m c 9 t := rfl
theorem before_9 (c : Dev nD) (t : Fin cfg0.N) (d) : (dat m c).before 9 t d = iblk m c 9 t :=
  ((dat m c).before_in_eq_fetched 9 rfl (fun _ => rfl) (fun _ _ _ => rfl)
    (fun t => by rw [after_9]; unfold Dat.blockOf iblk; rw [dat_A]; try rfl) t d).trans
    (by unfold Dat.fetched Dat.blockOf iblk; rw [dat_A]; try rfl)

theorem phi_first (c : Dev nD) : (dat m c).Φ t0_0.castSucc = before m c := by
  show (if (t0_0.castSucc : Fin (cfg0.N + 1)).val = 0 then before m c else afterward c) = _
  exact if_pos rfl
theorem phi_last (c : Dev nD) : (dat m c).Φ t0_0.succ = afterward c := by
  show (if (t0_0.succ : Fin (cfg0.N + 1)).val = 0 then before m c else afterward c) = _
  exact if_neg (Nat.succ_ne_zero _)
theorem owed_first (c : Dev nD) : (dat m c).owed t0_0.castSucc = O₀ c := by
  show (if (t0_0.castSucc : Fin (cfg0.N + 1)).val = 0 then O₀ c else 0) = _
  exact if_pos rfl
theorem owed_last (c : Dev nD) : (dat m c).owed t0_0.succ = 0 := by
  show (if (t0_0.succ : Fin (cfg0.N + 1)).val = 0 then O₀ c else 0) = _
  exact if_neg (Nat.succ_ne_zero _)

theorem owesAt_intro (c : Dev nD) (t : Fin (cfg0.N + 1)) (O : CellTallies nD τ sig Unit) (h : (dat m c).owed t = O) :
    owing c O ⊢ ((dat m c).owesAt () t : sProp 𝕄) := by
  unfold owing Dat.owesAt Pipeline.owesWithin Dat.bound
  rw [h, show (dat m c).recorded t = Set.univ from rfl]
  iintro ⟨%W, HO⟩
  iexists W
  isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ owing c O := by
  unfold owing Dat.owesAt Pipeline.owesWithin
  rw [h]
  iintro ⟨%W, -, HO⟩
  iexists W
  iexact HO

theorem in_0 (c : Dev nD) :
    (iprop(∃ d, owns (c : Thread nD τ) ((cfg0.win 0).stage (cfg0.slots t0_0 0)) fullShare ((dat m c).before 0 t0_0 d)) : sProp 𝕄)
      ⊢ owns (c : Thread nD τ) stgs.a0 fullShare (ins m c).x := by
  iintro ⟨%d, H⟩
  rw [before_0 m c t0_0 d]
  iexact H
theorem in_1 (c : Dev nD) :
    (iprop(∃ d, owns (c : Thread nD τ) ((cfg0.win 1).stage (cfg0.slots t0_0 1)) fullShare ((dat m c).before 1 t0_0 d)) : sProp 𝕄)
      ⊢ owns (c : Thread nD τ) stgs.a1 fullShare (ins m c).wq := by
  iintro ⟨%d, H⟩
  rw [before_1 m c t0_0 d]
  iexact H
theorem in_2 (c : Dev nD) :
    (iprop(∃ d, owns (c : Thread nD τ) ((cfg0.win 2).stage (cfg0.slots t0_0 2)) fullShare ((dat m c).before 2 t0_0 d)) : sProp 𝕄)
      ⊢ owns (c : Thread nD τ) stgs.a2 fullShare (ins m c).wk := by
  iintro ⟨%d, H⟩
  rw [before_2 m c t0_0 d]
  iexact H
theorem in_3 (c : Dev nD) :
    (iprop(∃ d, owns (c : Thread nD τ) ((cfg0.win 3).stage (cfg0.slots t0_0 3)) fullShare ((dat m c).before 3 t0_0 d)) : sProp 𝕄)
      ⊢ owns (c : Thread nD τ) stgs.a3 fullShare (ins m c).wv := by
  iintro ⟨%d, H⟩
  rw [before_3 m c t0_0 d]
  iexact H
theorem in_4 (c : Dev nD) :
    (iprop(∃ d, owns (c : Thread nD τ) ((cfg0.win 4).stage (cfg0.slots t0_0 4)) fullShare ((dat m c).before 4 t0_0 d)) : sProp 𝕄)
      ⊢ owns (c : Thread nD τ) stgs.a4 fullShare (ins m c).wo := by
  iintro ⟨%d, H⟩
  rw [before_4 m c t0_0 d]
  iexact H
theorem in_5 (c : Dev nD) :
    (iprop(∃ d, owns (c : Thread nD τ) ((cfg0.win 5).stage (cfg0.slots t0_0 5)) fullShare ((dat m c).before 5 t0_0 d)) : sProp 𝕄)
      ⊢ owns (c : Thread nD τ) stgs.a5 fullShare (ins m c).cq := by
  iintro ⟨%d, H⟩
  rw [before_5 m c t0_0 d]
  iexact H
theorem in_6 (c : Dev nD) :
    (iprop(∃ d, owns (c : Thread nD τ) ((cfg0.win 6).stage (cfg0.slots t0_0 6)) fullShare ((dat m c).before 6 t0_0 d)) : sProp 𝕄)
      ⊢ owns (c : Thread nD τ) stgs.a6 fullShare (ins m c).sq := by
  iintro ⟨%d, H⟩
  rw [before_6 m c t0_0 d]
  iexact H
theorem in_7 (c : Dev nD) :
    (iprop(∃ d, owns (c : Thread nD τ) ((cfg0.win 7).stage (cfg0.slots t0_0 7)) fullShare ((dat m c).before 7 t0_0 d)) : sProp 𝕄)
      ⊢ owns (c : Thread nD τ) stgs.a7 fullShare (ins m c).ck := by
  iintro ⟨%d, H⟩
  rw [before_7 m c t0_0 d]
  iexact H
theorem in_8 (c : Dev nD) :
    (iprop(∃ d, owns (c : Thread nD τ) ((cfg0.win 8).stage (cfg0.slots t0_0 8)) fullShare ((dat m c).before 8 t0_0 d)) : sProp 𝕄)
      ⊢ owns (c : Thread nD τ) stgs.a8 fullShare (ins m c).sk := by
  iintro ⟨%d, H⟩
  rw [before_8 m c t0_0 d]
  iexact H
theorem in_9 (c : Dev nD) :
    (iprop(∃ d, owns (c : Thread nD τ) ((cfg0.win 9).stage (cfg0.slots t0_0 9)) fullShare ((dat m c).before 9 t0_0 d)) : sProp 𝕄)
      ⊢ owns (c : Thread nD τ) stgs.a9 fullShare (ins m c).r := by
  iintro ⟨%d, H⟩
  rw [before_9 m c t0_0 d]
  iexact H

set_option maxHeartbeats 1000000 in
/-- The body meets its obligation. -/
theorem body_meets (c : Dev nD) : BodyObligation (dat m c) (defs₀ (F := F)) 𝒱₀ () Set.univ := fun t => by
  obtain rfl := fin_N0 t
  rw [bigSep_W0, bigSep_W0, phi_first, phi_last]
  unfold before afterward
  iintro ⟨⟨HX, Hs, Hp⟩, HO, H0, H1, H2, H3, H4, H5, H6, H7, H8, H9, H10⟩
  ihave HO := (owesAt_elim m c t0_0.castSucc (O₀ c) (owed_first m c)) $$ HO
  ihave HB := (bodyPre_of (ins m) c stgs) $$ [HX Hs HO H0 H1 H2 H3 H4 H5 H6 H7 H8 H9 H10]
  · isplitl [HX]; · iexact HX
    isplitl [Hs]; · iexact Hs
    isplitl [HO]; · iexact HO
    isplitr [H10]
    · unfold stg
      isplitl [H0]; · iapply (in_0 m c); iexact H0
      isplitl [H1]; · iapply (in_1 m c); iexact H1
      isplitl [H2]; · iapply (in_2 m c); iexact H2
      isplitl [H3]; · iapply (in_3 m c); iexact H3
      isplitl [H4]; · iapply (in_4 m c); iexact H4
      isplitl [H5]; · iapply (in_5 m c); iexact H5
      isplitl [H6]; · iapply (in_6 m c); iexact H6
      isplitl [H7]; · iapply (in_7 m c); iexact H7
      isplitl [H8]; · iapply (in_8 m c); iexact H8
      iapply (in_9 m c); iexact H9
    · icases H10 with ⟨%d, H10⟩
      iexists _; iexact H10
  icases HB with ⟨%K, HB⟩
  iapply (body_run stgs (ins m) K c _)
  isplitl [HB]; · iexact HB
  iintro HB
  ihave HB := (bodyPost_out (ins m) c stgs) $$ HB
  icases HB with ⟨Hs, Hb, Hz, HO, HG, HY⟩
  isplitl [Hs Hb Hz Hp]
  · isplitl [Hb]; · iexact Hb
    isplitl [Hz]; · iexact Hz
    isplitl [Hs]; · iexact Hs
    iexact Hp
  isplitl [HO]; · iapply (owesAt_intro m c t0_0.succ 0 (owed_last m c)); iexact HO
  unfold stg
  icases HG with ⟨H0, H1, H2, H3, H4, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HY

end Cert.Rope

end
-- ==== Proof.Launch.lean ====
/- The launch: the ghost state of the protocol dealt to the devices, the host operations and the kernel call run, and what
   every terminating run leaves in memory. -/
module

public import proofs.«01_k».proof.Proof.Call
public import Idealize.ShloMosaic.Lib.Pipeline.ValueKit

@[expose] public section

noncomputable section

namespace Cert.Rope

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

/-- The buffers the run holds outside the kernel. -/
abbrev bufs : Finset (DevRef τ sig) := Pipeline.ucRefs τ sig
abbrev arrs : Finset (DevRef τ sig) := Pipeline.arrRefs (τ := τ) spec0

theorem arrs_sub : arrs ⊆ bufs := Pipeline.arrRefs_sub_ucRefs spec0 winFacts0.arr_unscoped

/-- A device's buffers after the call. -/
abbrev V₂ (c : Dev nD) : Valuation τ sig (Elt F) := Pipeline.afterRegion (dat m c) (V₁ m c)

/-- What rides along the host operations. -/
def riding (c : Dev nD) : sProp 𝕄 := iprop(Tk (ins m) c ∗ (∃ r, prngReg c r) ∗ owing c (O₀ c))

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

def seg0 : ℍ := Pipeline.HostSeg.ofOps _ _ _ _ _ bufs hostOps0
  (fun op h => Pipeline.sub_ucRefs op (List.forall_iff_forall_mem.mp hostOps0_sub op h))
  (List.forall_iff_forall_mem.mp hostOps0_fresh) (V₀ m) (riding m)

def Yk (c : Dev nD) : sProp 𝕄 := semVal (barCell c) 0

theorem held_none (c : Dev nD) (W : Valuation τ sig (Elt F)) : (StableHlo.held (c : Thread nD τ) ∅ W : sProp 𝕄) = BI.emp := by
  unfold StableHlo.held
  exact BI.bigSep_empty

theorem scoped_eq (c : Dev nD) : (Pipeline.scopedRest (Pipeline.pin (pcfgs (F := F)) adm 0).spec c : sProp 𝕄) = scratch c :=
  scopedRest0_eq c

theorem hin (c : Dev nD) : iprop(Pipeline.scopedRest (Pipeline.pin (pcfgs (F := F)) adm 0).spec c ∗ (∃ r, prngReg c r)
      ∗ StableHlo.held (c.tc : Thread nD τ) ∅ (V₁ m c) ∗ Xk (ins m) c) ⊢ (pdats m 0 c).Φ 0 := by
  rw [show (pdats m 0 c).Φ 0 = before m c from phi_first m c, scoped_eq]
  unfold before
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = afterward c from phi_last m c, scoped_eq, held_none, ownSems_eq]
  unfold afterward Yk
  iintro ⟨Hb, Hz, Hs, Hp⟩
  isplitl [Hs]; · iexact Hs
  isplitl [Hp]; · iexact Hp
  isplitr; · iempintro
  isplitl [Hz]; · iexact Hz
  iexact Hb

theorem cut : Pipeline.LevelCutOwed (pcfgs (F := F)) adm (pdats m) () L lv 0 (fun _ => 0) where
  hι c w s := by
    show () ∈ L ((c : Thread nD τ), _)
    rw [L_tc]; exact Finset.mem_singleton_self _
  hιb c w s := by
    have h : ∀ (w : Fin 11) (s : Fin (spec0 w).nbuf), lvOf (kindOf (.dma ((spec0 w).sem s))) ≤ 0 := by decide
    exact h w s
  hD c t g i h := by
    have e : (pdats (F := F) m 0 c).owed t = if t.val = 0 then O₀ c else 0 := rfl
    rw [e] at h
    split at h
    · have := above_O₀ c g i h
      refine ⟨?_, this.2⟩
      unfold L; rw [if_pos this.1]; exact Finset.mem_singleton_self _
    · exact absurd h (Nat.lt_irrefl 0)

theorem off_arrs (c : Dev nD) : ∀ b ∈ (bufs \ arrs) \ (∅ : Finset (DevRef τ sig)), V₂ m c b = V₁ m c b := by
  intro b hb
  rw [Finset.sdiff_empty] at hb
  exact Pipeline.afterRegion_off (dat m c) (V₁ m c) bufs b hb

theorem arr_last (c : Dev nD) (w : Fin 11) : (dat m c).arrAt w cfg0.N = V₂ m c (Proc.devRef .tc (Pipeline.arrRef spec0 w)) :=
  (Pipeline.afterRegion_arr (dat m c) (V₁ m c) winFacts0.arr_inj w).symm

theorem shares (c : Dev nD) (w : Fin 11) : (dat m c).share w = fullShare := by
  unfold Dat.share
  split <;> rfl

set_option backward.isDefEq.respectTransparency.types false in
set_option maxHeartbeats 1000000 in
def reg0 : ℝ𝕊 0 :=
  Pipeline.RegionSeg.ofTalk (pcfgs (F := F)) adm (pdats m) () defs₀ 𝒱₀ L lv 0 osem osem_facts
    ∅ (bufs \ arrs) (Finset.empty_subset _) launch0.toP rfl (fun c => (body_meets m c).loose)
    (fun _ => 0) O₀ (fun c => (owed_first m c).trans (zero_add _).symm) (fun c => owed_last m c) (fun _ => rfl) (fun c w => shares m c w)
    (V₁ m) (V₂ m) (off_arrs m)
    (Tk (ins m)) Yk (Xk (ins m)) Yk (hopen (ins m)) (hin m) (hout m)
    (fun c => by iintro H; imodintro; iexact H)
    (fun _ => 0) (cut m)
    (fun _ => iprop(emp))
    (fun _ _ => rfl) (fun c w => arr_last m c w)

theorem reg0_pre (c : Dev nD) : iprop(StableHlo.held (c : Thread nD τ) bufs (V₁ m c) ∗ riding m c) ⊢ (reg0 m).pre c := by
  show _ ⊢ iprop(StableHlo.held (c.tc : Thread nD τ) arrs (V₁ m c) ∗ (∃ r, prngReg c r)
    ∗ (StableHlo.held (c.tc : Thread nD τ) (bufs \ arrs) (V₁ m c) ∗ emp) ∗ Tk (ins m) c ∗ ∃ Wd, owes (c : Thread nD τ) (0 + O₀ c) Wd)
  rw [StableHlo.held_sub_split (c.tc : Thread nD τ) arrs_sub (V₁ m c), zero_add]
  unfold riding owing
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) (bufs \ arrs) (V₂ m c) ∗ emp) ∗ Yk c ∗ ∃ Wd, owes (c : Thread nD τ) (0 : CellTallies nD τ sig Unit) Wd) ⊢ _
  rw [StableHlo.held_sub_split (c.tc : Thread nD τ) arrs_sub (V₂ m c)]
  unfold Yk
  iintro ⟨Ha, -, ⟨Hr, -⟩, Hb, HO⟩
  isplitr [HO]
  · isplitr [Hb]
    · isplitl [Ha]; · iexact Ha
      iexact Hr
    iexact Hb
  iexact HO

def segs : List (Pipeline.Seg (pcfgs (F := F)) adm (pdats m) () defs₀ 𝒱₀ L lv) := [.host (seg0 m), .region (reg0 m)]

theorem main_eq (c : Dev nD) : main (F := F) c = Pipeline.Seg.run (segs m) := by
  rw [main_chain, Pipeline.Seg.run_eq_chain]
  rfl

/-! ## The ghost state dealt -/

def barEmb : Dev nD ↪ GSem nD τ sig := ⟨fun c => barCell c, fun _ _ h => congrArg (fun g : GSem nD τ sig => g.1.1) h⟩

theorem ds_inj : Function.Injective (fun p : Fin 4 × Fin 4 => ds p.1 p.2) := by decide

def scEmb : Dev nD × (Fin 4 × Fin 4) ↪ GSem nD τ sig :=
  ⟨fun p => cell p.1 p.2.1 p.2.2, fun p p' h => by
    have h1 : p.1 = p'.1 := congrArg (fun g : GSem nD τ sig => g.1.1) h
    have h2 : (SemLoc.dma (ds p.2.1 p.2.2) : SemLoc sig) = .dma (ds p'.2.1 p'.2.2) := congrArg (fun g : GSem nD τ sig => g.2) h
    exact Prod.ext h1 (ds_inj (SemLoc.dma.inj h2))⟩

abbrev barCells : Finset (GSem nD τ sig) := Finset.univ.map barEmb
abbrev scCells : Finset (GSem nD τ sig) := Finset.univ.map scEmb

theorem cells_disjoint : Disjoint barCells scCells := by
  rw [Finset.disjoint_left]
  rintro g h₁ h₂
  obtain ⟨c, -, rfl⟩ := Finset.mem_map.mp h₁
  obtain ⟨p, -, h⟩ := Finset.mem_map.mp h₂
  have h2 : (SemLoc.dma (ds p.2.1 p.2.2) : SemLoc sig) = .reg barrier0 := congrArg (fun g : GSem nD τ sig => g.2) h
  exact absurd h2 (by simp)

/-- The duty of device `p.1` towards device `p.2.1`: at the barrier, then at the four kinds of counter. -/
def tokOf (p : Dev nD × Dev nD × Fin 5) : GSem nD τ sig × ℕ × Dev nD :=
  match p with
  | (c, d, 0) => (barCell d, 0, c)
  | (c, d, 1) => (cell c 0 d, 0, c)
  | (c, d, 2) => (cell d 1 c, 0, c)
  | (c, d, 3) => (cell c 2 d, 0, c)
  | (c, d, 4) => (cell d 3 c, 0, c)

/-- Which duty it was. -/
def ofTok (x : GSem nD τ sig × ℕ × Dev nD) : Dev nD × Dev nD × Fin 5 :=
  match kindOf x.1.2 with
  | some (some (k, j)) => if k = 0 then (x.2.2, j, 1) else if k = 1 then (x.2.2, x.1.1.1, 2) else if k = 2 then (x.2.2, j, 3) else (x.2.2, x.1.1.1, 4)
  | _ => (x.2.2, x.1.1.1, 0)

theorem ofTok_tokOf (p : Dev nD × Dev nD × Fin 5) : ofTok (tokOf p) = p := by
  obtain ⟨c, d, κ⟩ := p
  fin_cases κ <;> simp only [tokOf, ofTok, kindOf_ds] <;> rfl

def toksAll : Finset (GSem nD τ sig × ℕ × Dev nD) :=
  Finset.univ.map ⟨tokOf, (show Function.LeftInverse ofTok tokOf from ofTok_tokOf).injective⟩

def u₀ : UU :=
  (initOf (Pipeline.cells (Pipeline.pin (pcfgs (F := F)) adm) cellOf_inj) (Pipeline.launchToks (Pipeline.pin (pcfgs (F := F)) adm) cellOf_inj),
    launchOf barCells scCells toksAll)

/-- A resource all of which is on device 0. -/
def onZero (X : sProp 𝕄) (c : Dev nD) : sProp 𝕄 := if c = 0 then X else iprop(emp)
theorem bigSep_onZero (X : sProp 𝕄) : bigSep Finset.univ (onZero X) = X := by
  rw [bigSep_univ_at _ (0 : Dev nD), bigSep_congr (s := Finset.univ.erase 0) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def G : Dev nD → sProp 𝕄 := onZero (BI.own (ER (launchOf barCells scCells toksAll)))

/-- What every device may consult. -/
def records (κ : GSem nD τ sig → ℕ) : sProp 𝕄 :=
  iprop((bigSep (barCells ∪ scCells) fun g => cellInv ER (sched (part (ins m)) (summed (ins m))) (κ g) g) ∗ bigSep barCells fun g => reached ER g 0)

instance records_persistent (κ : GSem nD τ sig → ℕ) : BI.Persistent (records m κ) := by unfold records; infer_instance

theorem gOf_mem (p : Dev nD × Option (Fin 4 × Fin 4)) : gOf p ∈ barCells ∪ scCells := by
  obtain ⟨c, _ | ⟨k, j⟩⟩ := p
  · exact Finset.mem_union_left _ (Finset.mem_map_of_mem barEmb (Finset.mem_univ c))
  · exact Finset.mem_union_right _ (Finset.mem_map_of_mem scEmb (Finset.mem_univ (c, k, j)))

theorem invs_of (κ : GSem nD τ sig → ℕ) :
    (bigSep (barCells ∪ scCells) fun g => cellInv ER (sched (part (ins m)) (summed (ins m))) (κ g) g : sProp 𝕄) ⊢ invs (part (ins m)) (summed (ins m)) κ := by
  unfold invs
  refine (bigSep_of_persistent (Finset.univ : Finset (Dev nD × Option (Fin 4 × Fin 4))) _).trans (bigSep_mono fun p _ => ?_)
  exact bigSep_elim (Φ := fun g => cellInv ER (sched (part (ins m)) (summed (ins m))) (κ g) g) (gOf_mem p)

theorem reached_at (c : Dev nD) : (bigSep barCells fun g => (reached ER g 0 : sProp 𝕄)) ⊢ reached ER (barCell c) 0 :=
  bigSep_elim (Φ := fun g => (reached ER g 0 : sProp 𝕄)) (Finset.mem_map_of_mem barEmb (Finset.mem_univ c))

/-- What stays with device `c`. -/
def linear (c : Dev nD) : sProp 𝕄 :=
  iprop(atPos ER (barCell c) 0 ∅ 0 ∗ four (fun k => four (fun j => openTok ER (cell c k j)))
    ∗ four (fun d => dutyTok ER (barCell d) 0 c) ∗ four (fun d => duesTo c d))

/-- What else of a device's launch holdings. -/
def bundle (c : Dev nD) : sProp 𝕄 :=
  iprop(StableHlo.held (c : Thread nD τ) bufs (V₀ m c) ∗ (cred (tallyAt (barCell c) () 3) ∗ four (fun j => cred (tallyAt (cell c 1 j) () N)) ∗ four (fun j => cred (tallyAt (cell c 3 j) () N)))
    ∗ owing c (O₀ c) ∗ ∃ r, prngReg c r)

abbrev T₀ (c : Dev nD) : sProp 𝕄 := iprop(StableHlo.held (c : Thread nD τ) bufs (V₀ m c) ∗ riding m c)
abbrev Tₙ (c : Dev nD) : sProp 𝕄 := iprop(StableHlo.held (c : Thread nD τ) bufs (V₂ m c) ∗ semVal (barCell c) 0)

theorem T₀_intro (κ : GSem nD τ sig → ℕ) (c : Dev nD) : iprop(records m κ ∗ (linear c ∗ bundle m c)) ⊢ T₀ m c := by
  unfold records linear bundle T₀ riding Tk
  iintro ⟨⟨#HI, #HR⟩, ⟨Hat, Ho, Hb, HD⟩, Hh, ⟨H3, H1, HN⟩, HO, Hp⟩
  ihave Hb := (Entails.of_eq (four_ring c (fun d => (dutyTok ER (barCell d) 0 c : sProp 𝕄)))) $$ Hb
  icases Hb with ⟨B1, B2, B3, -⟩
  isplitl [Hh]; · iexact Hh
  isplitr [Hp HO]
  · iexists κ
    isplitr; · iapply (invs_of m κ); iexact HI
    isplitl [Hat]; · iexact Hat
    isplitl [HD]; · iexact HD
    isplitl [B1 B2 B3]
    · unfold sigTok
      isplitl [B1]
      · isplitl [B1]; · iexact B1
        iapply (reached_at (F := F) (nx c 1)); iexact HR
      isplitl [B2]
      · isplitl [B2]; · iexact B2
        iapply (reached_at (F := F) (nx c 2)); iexact HR
      · isplitl [B3]; · iexact B3
        iapply (reached_at (F := F) (nx c 3)); iexact HR
    isplitl [Ho]; · iexact Ho
    isplitl [H3]; · iexact H3
    isplitl [H1]; · iexact H1
    iexact HN
  isplitl [Hp]; · iexact Hp
  iexact HO

theorem toks_eq : bigSep toksAll (fun x => (dutyTok ER x.1 x.2.1 x.2.2 : sProp 𝕄))
    ⊢ bigSep Finset.univ fun c : Dev nD => iprop(four (fun d => dutyTok ER (barCell d) 0 c) ∗ four (fun d => duesTo c d)) := by
  unfold toksAll
  rw [bigSep_map, bigSep_univ_prod]
  refine bigSep_mono fun c _ => ?_
  rw [bigSep_univ_prod]
  have h (d : Dev nD) : (bigSep Finset.univ fun κ : Fin 5 => (dutyTok ER (tokOf (c, d, κ)).1 (tokOf (c, d, κ)).2.1 (tokOf (c, d, κ)).2.2 : sProp 𝕄))
      ⊢ iprop(dutyTok ER (barCell d) 0 c ∗ duesTo c d) := by
    rw [bigSep_univ_eq_bigSepL [(0 : Fin 5), 1, 2, 3, 4] (by decide) (by decide)]
    unfold duesTo
    exact .rfl
  refine (bigSep_mono (Ψ := fun d : Dev nD => iprop(dutyTok ER (barCell d) 0 c ∗ duesTo c d)) fun d _ => h d).trans ?_
  rw [bigSep_sep', bigSep_four, bigSep_four]
  exact Entails.refl _

/-! ## The credit of the launch -/

theorem bar_eq_iff (c d : Dev nD) : barCell c = barCell d ↔ c = d :=
  ⟨fun h => barEmb.injective h, fun h => congrArg barCell h⟩

theorem cell_eq_iff (c d : Dev nD) (k j k' j' : Fin 4) : cell c k j = cell d k' j' ↔ c = d ∧ k = k' ∧ j = j' := by
  constructor
  · intro h
    have := scEmb.injective (a₁ := (c, (k, j))) (a₂ := (d, (k', j'))) h
    simpa using this
  · rintro ⟨rfl, rfl, rfl⟩; rfl

theorem bar_cell_iff (c d : Dev nD) (k j : Fin 4) : barCell c = cell d k j ↔ False := by
  refine ⟨fun h => ?_, False.elim⟩
  have h2 : (SemLoc.reg barrier0 : SemLoc sig) = .dma (ds k j) := congrArg (fun g : GSem nD τ sig => g.2) h
  exact absurd h2 (by simp)

theorem cell_bar_iff (c d : Dev nD) (k j : Fin 4) : cell d k j = barCell c ↔ False := by
  refine ⟨fun h => ?_, False.elim⟩
  have h2 : (SemLoc.dma (ds k j) : SemLoc sig) = .reg barrier0 := congrArg (fun g : GSem nD τ sig => g.2) h
  exact absurd h2 (by simp)

theorem O₀_at (d : Dev nD) (g : GSem nD τ sig) : O₀ d g () =
    tAg d 3 g () + tAg d 2 g () + tAg d 1 g () + tAg d 0 g () + tRs d 3 g () + tRs d 2 g () + tRs d 1 g () + tRs d 0 g ()
      + tBar (nx d 3) g () + tBar (nx d 2) g () + tBar (nx d 1) g () := by
  unfold O₀ oB2 oB3 oR0 oR1 oR2 oR3 oA0 oA1 oA2 oA3
  simp only [Pi.add_apply, Finsupp.add_apply, Pi.zero_apply, Finsupp.zero_apply, Nat.zero_add]

theorem owed_bar (d c : Dev nD) : O₀ d (barCell c) () = (if c = nx d 3 then 1 else 0) + (if c = nx d 2 then 1 else 0) + (if c = nx d 1 then 1 else 0) := by
  rw [O₀_at]
  simp only [tAg, tRs, tBar, tallyAt_apply, bar_cell_iff, bar_eq_iff, and_true, if_false, Nat.zero_add]

theorem owed_in (d c : Dev nD) (j : Fin 4) : O₀ d (cell c 1 j) () = if j = d then N else 0 := by
  rw [O₀_at]
  simp only [tAg, tRs, tBar, tallyAt_apply, cell_bar_iff, cell_eq_iff, and_true, if_false, Nat.add_zero]
  generalize N = n
  revert c d j
  intro d c j
  fin_cases c <;> by_cases h : j = d <;> simp [h]

theorem owed_back (d c : Dev nD) (j : Fin 4) : O₀ d (cell c 3 j) () = if j = d then N else 0 := by
  rw [O₀_at]
  simp only [tAg, tRs, tBar, tallyAt_apply, cell_bar_iff, cell_eq_iff, and_true, if_false, Nat.add_zero]
  generalize N = n
  revert c d j
  intro d c j
  fin_cases c <;> by_cases h : j = d <;> simp [h]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_in (c : Dev nD) (j : Fin 4) :
    tallyOn (cell c 1 j) (launchCredit (Pipeline.owing O₀) 0 (cell c 1 j)) = (tallyAt (cell c 1 j) () N : CellTallies nD τ sig Unit) := by
  unfold tallyAt; refine congrArg _ (Finsupp.ext fun u => ?_); cases u
  rw [Pipeline.launchCredit_owing, Finsupp.single_eq_same, Finset.sum_congr rfl fun d _ => owed_in d c j, Finset.sum_ite_eq Finset.univ j fun _ => N,
    if_pos (Finset.mem_univ _)]

theorem launch_back (c : Dev nD) (j : Fin 4) :
    tallyOn (cell c 3 j) (launchCredit (Pipeline.owing O₀) 0 (cell c 3 j)) = (tallyAt (cell c 3 j) () N : CellTallies nD τ sig Unit) := by
  unfold tallyAt; refine congrArg _ (Finsupp.ext fun u => ?_); cases u
  rw [Pipeline.launchCredit_owing, Finsupp.single_eq_same, Finset.sum_congr rfl fun d _ => owed_back d c j, Finset.sum_ite_eq Finset.univ j fun _ => N,
    if_pos (Finset.mem_univ _)]

theorem apart {Φ Ψ : Dev nD → sProp 𝕄} : (bigSep Finset.univ fun c => iprop(Φ c ∗ Ψ c)) ⊢ iprop(bigSep Finset.univ Φ ∗ bigSep Finset.univ Ψ) :=
  Entails.of_eq (bigSep_sep' Finset.univ Φ Ψ)
theorem together {Φ Ψ : Dev nD → sProp 𝕄} : iprop(bigSep Finset.univ Φ ∗ bigSep Finset.univ Ψ) ⊢ (bigSep Finset.univ fun c => iprop(Φ c ∗ Ψ c)) :=
  Entails.of_eq (bigSep_sep' Finset.univ Φ Ψ).symm

theorem pick (Φ : SemLoc sig → sProp 𝕄) (T : Finset (SemLoc sig)) : bigSep Finset.univ Φ ⊢ bigSep T Φ := by
  rw [← Finset.union_sdiff_of_subset (Finset.subset_univ T), bigSep_union Finset.disjoint_sdiff]
  show iprop(bigSep T Φ ∗ bigSep (Finset.univ \ T) Φ) ⊢ _
  iintro ⟨H, -⟩
  iexact H

/-- The counters a device holds launch credit of. -/
def credited : List (SemLoc sig) :=
  [.reg barrier0, .dma (ds 1 0), .dma (ds 1 1), .dma (ds 1 2), .dma (ds 1 3), .dma (ds 3 0), .dma (ds 3 1), .dma (ds 3 2), .dma (ds 3 3)]

theorem creds (c : Dev nD) : (Pipeline.launchCred O₀ c : sProp 𝕄)
    ⊢ iprop(cred (tallyAt (barCell c) () 3) ∗ four (fun j => cred (tallyAt (cell c 1 j) () N)) ∗ four (fun j => cred (tallyAt (cell c 3 j) () N))) := by
  unfold Pipeline.launchCred
  refine (pick _ credited.toFinset).trans ?_
  rw [bigSep_eq_bigSepL_of_eq (S := credited.toFinset) credited rfl (by decide)]
  rw [← launch_bar c]
  simp only [← launch_in c, ← launch_back c]
  unfold four credited
  simp only [bigSepL_cons_cons, bigSepL_singleton]
  show iprop(cred (tallyOn (barCell c) _) ∗ cred (tallyOn (cell c 1 0) _) ∗ cred (tallyOn (cell c 1 1) _) ∗ cred (tallyOn (cell c 1 2) _)
    ∗ cred (tallyOn (cell c 1 3) _) ∗ cred (tallyOn (cell c 3 0) _) ∗ cred (tallyOn (cell c 3 1) _) ∗ cred (tallyOn (cell c 3 2) _)
    ∗ cred (tallyOn (cell c 3 3) _)) ⊢ _
  iintro ⟨H0, A0, A1, A2, A3, B0, B1, B2, B3⟩
  isplitl [H0]; · iexact H0
  isplitl [A0 A1 A2 A3]
  · isplitl [A0]; · iexact A0
    isplitl [A1]; · iexact A1
    isplitl [A2]; · iexact A2
    iexact A3
  · isplitl [B0]; · iexact B0
    isplitl [B1]; · iexact B1
    isplitl [B2]; · iexact B2
    iexact B3

theorem unscopedSems0_bar (c : Dev nD) : (unscopedSems0 c : sProp 𝕄) = semVal (barCell c) 0 := by
  unfold unscopedSems0; rw [bigSep_eq_bigSepL_of_eq [SemLoc.reg barrier0] (by decide) (by decide)]; rfl

/-- Every device's first holdings, made from what the launch deals. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from Pipeline.unscopedBufs_held c (V₀ m c),
      unscopedSems0_bar]
    unfold bundle owing
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexists ∅; iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => four (fun k => four (fun j => openTok ER (cell c k j)))) :=
    Entails.of_eq (by
      rw [bigSep_map, bigSep_univ_prod]
      refine bigSep_congr fun c _ => ?_
      rw [bigSep_univ_prod]
      simp only [bigSep_four]
      rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := apart $$ H'; icases H2 with ⟨HB, H3⟩
  ihave H4 := apart $$ H3; icases H4 with ⟨Hv, HG⟩
  ihave Hu := (show bigSep Finset.univ (G (F := F)) ⊢ BI.own (ER (launchOf barCells scCells toksAll)) from
    Entails.of_eq (bigSep_onZero (F := F) (BI.own (ER (launchOf barCells scCells toksAll))))) $$ HG
  imod (Rounds.fund_launch ER (sched (part (ins m)) (summed (ins m))) cells_disjoint (fun g _ h => h) toksAll) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply together
  isplitr [HB]
  · unfold linear
    iapply together; isplitl [Hat]; · iapply hat $$ Hat
    iapply together; isplitl [Hopen]; · iapply hop $$ Hopen
    iapply (toks_eq (F := F)) $$ Htok
  · iexact HB

/-! ## What the run leaves -/

abbrev pt (c : Dev nD) (b : Ref sig .tc) (f : b.ty.Contents (Elt F)) : sProp 𝕄 := (Memref.whole b).view.loc (c : Thread nD τ) ↦{fullShare} f

/-- The buffers the claims speak of. -/
def spoken : List (DevRef τ sig) :=
  [Proc.devRef .tc main_arg0, Proc.devRef .tc main_arg1, Proc.devRef .tc main_arg2, Proc.devRef .tc main_arg3, Proc.devRef .tc main_arg4, Proc.devRef .tc main_v66]

theorem spoken_sub : spoken.toFinset ⊆ bufs := by decide

theorem spoken_of (c : Dev nD) (W : Valuation τ sig (Elt F)) : (StableHlo.held (c : Thread nD τ) bufs W : sProp 𝕄)
    ⊢ iprop(pt c main_arg0 (W main_arg0) ∗ pt c main_arg1 (W main_arg1) ∗ pt c main_arg2 (W main_arg2) ∗ pt c main_arg3 (W main_arg3)
      ∗ pt c main_arg4 (W main_arg4) ∗ pt c main_v66 (W main_v66)) := by
  rw [StableHlo.held_sub_split (c.tc : Thread nD τ) spoken_sub W]
  unfold StableHlo.held
  rw [bigSep_eq_bigSepL_of_eq (S := spoken.toFinset) spoken rfl (by decide)]
  unfold spoken
  simp only [bigSepL_cons_cons, bigSepL_singleton]
  iintro ⟨H, -⟩
  iexact H

theorem kept (c : Dev nD) (w : Fin 11) (h : (cfg0.win w).isOut = false) :
    V₂ m c (Proc.devRef .tc (Pipeline.arrRef spec0 w)) = V m c (Pipeline.arrRef spec0 w) :=
  (arr_last m c w).symm.trans ((dat m c).arrAt_in w h _)

theorem V₂_arg0 (c : Dev nD) : V₂ m c main_arg0 = m ((c : Thread nD τ).loc main_arg0) := (kept m c 0 rfl).trans (V_main_arg0 m c)
theorem V₂_arg1 (c : Dev nD) : V₂ m c main_arg1 = m ((c : Thread nD τ).loc main_arg1) := (kept m c 1 rfl).trans (V_main_arg1 m c)
theorem V₂_arg2 (c : Dev nD) : V₂ m c main_arg2 = m ((c : Thread nD τ).loc main_arg2) := (kept m c 2 rfl).trans (V_main_arg2 m c)
theorem V₂_arg3 (c : Dev nD) : V₂ m c main_arg3 = m ((c : Thread nD τ).loc main_arg3) := (kept m c 3 rfl).trans (V_main_arg3 m c)
theorem V₂_arg4 (c : Dev nD) : V₂ m c main_arg4 = m ((c : Thread nD τ).loc main_arg4) := (kept m c 4 rfl).trans (V_main_arg4 m c)

theorem V₂_out (c : Dev nD) : V₂ m c main_v66 = out (ins m) := by
  refine (arr_last m c 10).symm.trans ?_
  refine (dat m c).arrAt_eq_of_after_last 10 t0_0 (by decide +kernel) (out (ins m)) fun j => ?_
  blk_simp
  rfl

theorem unscoped_eq : ∀ sm : SemLoc sig, sm.isScoped .tc = false → sm = .reg barrier0 := by decide

set_option backward.isDefEq.respectTransparency.types false in
/-- The kernel's run, at any float values: from any memory with the counters at zero every execution terminates, the result array of
    every device is `out` of what the pipeline stages, the arguments are unchanged, and every counter of the machine is at zero. -/
theorem run_main : θ_run defs (onTc (τ := τ) (main (F := F))) ⟨m, fun _ => 0, ρ⟩
    (fun r => (∀ c : Dev nD, r.2.mem ((c : Thread nD τ).loc main_v66) = out (ins m)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onZero]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_arg2) = V₂ m c main_arg2 ∧ s.mem ((c : Thread nD τ).loc main_arg3) = V₂ m c main_arg3
        ∧ s.mem ((c : Thread nD τ).loc main_arg4) = V₂ m c main_arg4 ∧ s.mem ((c : Thread nD τ).loc main_v66) = V₂ m c main_v66)
      ∧ s.sem (barCell c) = 0)
    (hfin := fun c s' => by
      iintro ⟨⟨Hh, Hb0⟩, HSI⟩
      ihave Hh := (spoken_of (F := F) c (V₂ m c)) $$ Hh
      icases Hh with ⟨H0, H1, H2, H3, H4, H5⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨h5.trans (V₂_out m c), h0.trans (V₂_arg0 m c), h1.trans (V₂_arg1 m c), h2.trans (V₂_arg2 m c), h3.trans (V₂_arg3 m c), h4.trans (V₂_arg4 m c)⟩,
      sem_eq_zero hs fun c sm hsm => by
        obtain rfl := unscoped_eq sm hsm
        exact (h c).2⟩)

end Cert.Rope

end
-- ==== Proof.Frames.lean ====
/- The frames of the three programs. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

set_option maxHeartbeats 8000000 in
/-- The two texts of the kernel give the region's bodies alike. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- So they give the procedures alike. -/
theorem defs_eq : Cert.Kernel.defs (F := Bits) = Cert.KernelIdeal.defs (F := Bits) := by
  unfold Cert.Kernel.defs Cert.KernelIdeal.defs
  rw [defs₀_eq]
  rfl

set_option maxHeartbeats 8000000 in
/-- The host operations before the region are the same. -/
theorem part0_eq : Cert.Kernel.main_part0 (F := Bits) = Cert.KernelIdeal.main_part0 (F := Bits) := by
  funext d
  rfl

set_option maxHeartbeats 8000000 in
/-- So are the rest and the call. -/
theorem part1_eq : Cert.Kernel.main_part1 (F := Bits) = Cert.KernelIdeal.main_part1 (F := Bits) := by
  funext d
  rfl

/-- The two entry points are the same program. -/
theorem main_eq : Cert.Kernel.main (F := Bits) = Cert.KernelIdeal.main (F := Bits) := by
  unfold Cert.Kernel.main Cert.KernelIdeal.main
  rw [part0_eq, part1_eq]

/-- The run of the kernel, of any procedures and program that are its own. -/
theorem run_of {D} (hD : D = Cert.KernelIdeal.defs (F := Bits)) {M} (hM : M = Cert.KernelIdeal.main (F := Bits)) (m) (ρ) :
    θ_run D (onTc (τ := Cert.KernelIdeal.τ) M) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) := by
  subst hD hM
  exact (θ_run Cert.KernelIdeal.defs _ _).mono (fun _ h => ⟨fun c => (h.1 c).2, h.2⟩) (Cert.Rope.run_main (F := Bits) m ρ)

/-- The kernel as written runs, keeps its arguments, and leaves every counter at zero. -/
theorem frame_kernel : Cert.quiescent_Kernel := fun m ρ _ => run_of defs_eq main_eq m ρ

/-- So does the kernel over the extended reals. -/
theorem frame_ideal : Cert.quiescent_KernelIdeal := fun m ρ _ =>
  (θ_run Cert.KernelIdeal.defs _ _).mono (fun _ h => ⟨fun c => (h.1 c).2, h.2⟩) (Cert.Rope.run_main (F := Ideal) m ρ)

/-- So does the reference, a straight line of host operations on no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.KerVal.lean ====
/- The kernel's payloads at an index: projections, rotated pairs, an attention head, a share, the sum. -/
module

public import proofs.«01_k».proof.Proof.Vals
public import Idealize.ShloMosaic.Lib.Pointwise

@[expose] public section

set_option maxRecDepth 16384

noncomputable section

namespace Cert.KerVal

open Cert.KernelIdeal Cert.KernelIdeal.Gen Idealize.ShloMosaic

/-- The values at row `256 b + i`. -/
theorem v_at (w : FVec Ideal S768x256 .bf16) (x : FVec Ideal S2x256x768 .bf16) (b : Fin 2) (i : Fin 256) (n : Fin 256) :
    k0_pay6 (F := Ideal) (k0_pay3 w) x (ix2 (⟨b.val * 256 + i.val, by omega⟩ : Fin 512) n) = ∑ k : Fin 768, (x (ix3 b i k) : EReal) * w (ix2 k n) := by
  pointwise [k0_pay6, k0_pay5, k0_pay3]

/-- The rotated queries there: the projection by the cosines, its product with the rotation by the sines. -/
theorem q_at (w : FVec Ideal S768x256 .bf16) (x : FVec Ideal S2x256x768 .bf16) (c s : FVec Ideal S512x256 .bf16) (r : FVec Ideal S256x256 .bf16) (b : Fin 2) (i : Fin 256) (n : Fin 256) :
    k0_pay7 (F := Ideal) (k0_pay1 w) x c r s (ix2 (⟨b.val * 256 + i.val, by omega⟩ : Fin 512) n)
      = (∑ k : Fin 768, (x (ix3 b i k) : EReal) * w (ix2 k n)) * c (ix2 (⟨b.val * 256 + i.val, by omega⟩ : Fin 512) n)
        + (∑ l : Fin 256, (∑ k : Fin 768, (x (ix3 b i k) : EReal) * w (ix2 k l)) * r (ix2 l n)) * s (ix2 (⟨b.val * 256 + i.val, by omega⟩ : Fin 512) n) := by
  pointwise [k0_pay7, k0_pay5, k0_pay1]

/-- The rotated keys likewise. -/
theorem k_at (w : FVec Ideal S768x256 .bf16) (x : FVec Ideal S2x256x768 .bf16) (c s : FVec Ideal S512x256 .bf16) (r : FVec Ideal S256x256 .bf16) (b : Fin 2) (i : Fin 256) (n : Fin 256) :
    k0_pay8 (F := Ideal) (k0_pay2 w) x c r s (ix2 (⟨b.val * 256 + i.val, by omega⟩ : Fin 512) n)
      = (∑ k : Fin 768, (x (ix3 b i k) : EReal) * w (ix2 k n)) * c (ix2 (⟨b.val * 256 + i.val, by omega⟩ : Fin 512) n)
        + (∑ l : Fin 256, (∑ k : Fin 768, (x (ix3 b i k) : EReal) * w (ix2 k l)) * r (ix2 l n)) * s (ix2 (⟨b.val * 256 + i.val, by omega⟩ : Fin 512) n) := by
  pointwise [k0_pay8, k0_pay5, k0_pay2]

/-- One head's attention. -/
def head (q k v : FVec Ideal S512x256 .bf16) (b : Fin 2) (h : Fin 4) (i : Fin 256) (d : Fin 64) : EReal :=
  (∑ j : Fin 256, Ideal.exp (∑ e : Fin 64, (q (ix2 (⟨b.val * 256 + i.val, by omega⟩ : Fin 512) (⟨h.val * 64 + e.val, by omega⟩ : Fin 256)) : EReal) * k (ix2 (⟨b.val * 256 + j.val, by omega⟩ : Fin 512) (⟨h.val * 64 + e.val, by omega⟩ : Fin 256)))
      * v (ix2 (⟨b.val * 256 + j.val, by omega⟩ : Fin 512) (⟨h.val * 64 + d.val, by omega⟩ : Fin 256)))
    * Ideal.div 1 (∑ j : Fin 256, Ideal.exp (∑ e : Fin 64, (q (ix2 (⟨b.val * 256 + i.val, by omega⟩ : Fin 512) (⟨h.val * 64 + e.val, by omega⟩ : Fin 256)) : EReal) * k (ix2 (⟨b.val * 256 + j.val, by omega⟩ : Fin 512) (⟨h.val * 64 + e.val, by omega⟩ : Fin 256))))

/-- Batch 0, head 0, from the blocks themselves. -/
theorem piece0_at (wq wk : FVec Ideal S768x256 .bf16) (x : FVec Ideal S2x256x768 .bf16) (c s c' s' : FVec Ideal S512x256 .bf16) (r : FVec Ideal S256x256 .bf16) (wv : FVec Ideal S768x256 .bf16) (i : Fin 256) (d : Fin 64) :
    k0_pay13 (k0_pay10 wq wk x c r s c' r s') (k0_pay11 wq wk x c r s c' r s') (k0_pay12 wv x) (ix3 (0 : Fin 1) i d)
      = head (k0_pay7 wq x c r s) (k0_pay8 wk x c' r s') (k0_pay6 wv x) 0 0 i d := by
  pointwise [k0_pay13, k0_pay10, k0_pay11, k0_pay12, k0_pay9, head]

/-- Batch 0, head 1. -/
theorem piece1_at (v q k : FVec Ideal S512x256 .bf16) (i : Fin 256) (d : Fin 64) :
    k0_pay14 v q k (ix3 (0 : Fin 1) i d) = head q k v 0 1 i d := by
  pointwise [k0_pay14, head]

/-- Batch 0, head 2. -/
theorem piece2_at (v q k : FVec Ideal S512x256 .bf16) (i : Fin 256) (d : Fin 64) :
    k0_pay16 (k0_pay15 v q k) (ix3 (0 : Fin 1) i d) = head q k v 0 2 i d := by
  pointwise [k0_pay16, k0_pay15, head]

/-- Batch 0, head 3. -/
theorem piece3_at (v q k : FVec Ideal S512x256 .bf16) (i : Fin 256) (d : Fin 64) :
    k0_pay17 v q k (ix3 (0 : Fin 1) i d) = head q k v 0 3 i d := by
  pointwise [k0_pay17, head]

/-- Batch 1, head 0. -/
theorem piece4_at (v q k : FVec Ideal S512x256 .bf16) (i : Fin 256) (d : Fin 64) :
    k0_pay21 (k0_pay20 v q k) (ix3 (0 : Fin 1) i d) = head q k v 1 0 i d := by
  pointwise [k0_pay21, k0_pay20, head]

/-- Batch 1, head 1. -/
theorem piece5_at (v q k : FVec Ideal S512x256 .bf16) (i : Fin 256) (d : Fin 64) :
    k0_pay22 v q k (ix3 (0 : Fin 1) i d) = head q k v 1 1 i d := by
  pointwise [k0_pay22, head]

/-- Batch 1, head 2. -/
theorem piece6_at (v q k : FVec Ideal S512x256 .bf16) (i : Fin 256) (d : Fin 64) :
    k0_pay23 v q k (ix3 (0 : Fin 1) i d) = head q k v 1 2 i d := by
  pointwise [k0_pay23, head]

/-- Batch 1, head 3. -/
theorem piece7_at (v q k : FVec Ideal S512x256 .bf16) (i : Fin 256) (d : Fin 64) :
    k0_pay26 v (k0_pay24 q k) (k0_pay25 q k) (ix3 (0 : Fin 1) i d) = head q k v 1 3 i d := by
  pointwise [k0_pay26, k0_pay25, k0_pay24, head]

/-- A share: the rows times the output weights. -/
theorem slab0_at (w : FVec Ideal S256x768 .bf16) (a : FVec Ideal S1x128x256 .bf16) (i : Fin 128) (o : Fin 768) :
    k0_pay18 (F := Ideal) (k0_pay4 w) a (ix3 (0 : Fin 1) i o) = ∑ n : Fin 256, (a (ix3 (0 : Fin 1) i n) : EReal) * w (ix2 n o) := by
  pointwise [k0_pay18, k0_pay4]

/-- A share: the rows times the output weights. -/
theorem slab1_at (w : FVec Ideal S256x768 .bf16) (a : FVec Ideal S1x128x256 .bf16) (i : Fin 128) (o : Fin 768) :
    k0_pay19 (F := Ideal) (k0_pay4 w) a (ix3 (0 : Fin 1) i o) = ∑ n : Fin 256, (a (ix3 (0 : Fin 1) i n) : EReal) * w (ix2 n o) := by
  pointwise [k0_pay19, k0_pay4]

/-- A share: the rows times the output weights. -/
theorem slab2_at (w : FVec Ideal S256x768 .bf16) (a : FVec Ideal S1x128x256 .bf16) (i : Fin 128) (o : Fin 768) :
    k0_pay27 (F := Ideal) (k0_pay4 w) a (ix3 (0 : Fin 1) i o) = ∑ n : Fin 256, (a (ix3 (0 : Fin 1) i n) : EReal) * w (ix2 n o) := by
  pointwise [k0_pay27, k0_pay4]

/-- A share: the rows times the output weights. -/
theorem slab3_at (w : FVec Ideal S256x768 .bf16) (a : FVec Ideal S1x128x256 .bf16) (i : Fin 128) (o : Fin 768) :
    k0_pay29 (F := Ideal) (k0_pay28 (k0_pay4 w) a) (ix3 (0 : Fin 1) i o) = ∑ n : Fin 256, (a (ix3 (0 : Fin 1) i n) : EReal) * w (ix2 n o) := by
  pointwise [k0_pay29, k0_pay28, k0_pay4]

/-- The chunk a device sums, of the four shares, and widened. -/
theorem sum_at (p0 p1 p2 p3 : FVec Ideal S1x128x768 .bf16) (i : Fin 128) (o : Fin 768) :
    k0_pay32 (F := Ideal) (Cert.Rope.un (k0_pay31 (F := Ideal) (k0_pay30 p0 p1) p2 p3)) (ix3 (0 : Fin 1) i o)
      = (((p0 (ix3 0 i o) : EReal) + p1 (ix3 0 i o)) + p2 (ix3 0 i o)) + p3 (ix3 0 i o) := by
  pointwise [k0_pay32, k0_pay31, k0_pay30, Cert.Rope.un]

open Cert.Rope (Ins)

/-- A device's attention output by batch and head. -/
theorem piece_at (I : Ins Ideal) (b : Fin 2) (h : Fin 4) (i : Fin 256) (d : Fin 64) :
    I.piece (4 * b.val + h.val) (ix3 (0 : Fin 1) i d) = head I.q I.k I.v b h i d := by
  match b, h with
  | 0, 0 => exact piece0_at _ _ _ _ _ _ _ _ _ i d
  | 0, 1 => exact piece1_at _ _ _ i d
  | 0, 2 => exact piece2_at _ _ _ i d
  | 0, 3 => exact piece3_at _ _ _ i d
  | 1, 0 => exact piece4_at _ _ _ i d
  | 1, 1 => exact piece5_at _ _ _ i d
  | 1, 2 => exact piece6_at _ _ _ i d
  | 1, 3 => exact piece7_at _ _ _ i d

/-- All heads side by side, by row and column. -/
theorem ctx_at (I : Ins Ideal) (b : Fin 2) (i : Fin 256) (n : Fin 256) :
    I.ctx (ix3 b i n) = head I.q I.k I.v b (⟨n.val / 64, by omega⟩ : Fin 4) i (⟨n.val % 64, by omega⟩ : Fin 64) :=
  piece_at I b (⟨n.val / 64, by omega⟩ : Fin 4) i (⟨n.val % 64, by omega⟩ : Fin 64)

/-- A device's share of a chunk, by row and column. -/
theorem slab_at (I : Ins Ideal) (b h : Fin 2) (i : Fin 128) (o : Fin 768) :
    I.slab (⟨2 * b.val + h.val, by omega⟩ : Fin 4) (ix3 (0 : Fin 1) i o)
      = ∑ n : Fin 256, (I.ctx (ix3 b (⟨128 * h.val + i.val, by omega⟩ : Fin 256) n) : EReal) * I.wo (ix2 n o) := by
  match b, h with
  | 0, 0 => exact slab0_at _ _ i o
  | 0, 1 => exact slab1_at _ _ i o
  | 1, 0 => exact slab2_at _ _ i o
  | 1, 1 => exact slab3_at _ _ i o

/-- The result, by batch, row and column: the four devices' shares summed in order. -/
theorem out_at (I : Dev nD → Ins Ideal) (b : Fin 2) (i : Fin 256) (o : Fin 768) :
    Cert.Rope.out I (ix3 b i o)
      = (((∑ n : Fin 256, ((I 0).ctx (ix3 b i n) : EReal) * (I 0).wo (ix2 n o)) + ∑ n : Fin 256, ((I 1).ctx (ix3 b i n) : EReal) * (I 1).wo (ix2 n o))
          + ∑ n : Fin 256, ((I 2).ctx (ix3 b i n) : EReal) * (I 2).wo (ix2 n o)) + ∑ n : Fin 256, ((I 3).ctx (ix3 b i n) : EReal) * (I 3).wo (ix2 n o) := by
  have hi : (⟨128 * (i.val / 128) + i.val % 128, by omega⟩ : Fin 256) = i := Fin.ext (Nat.div_add_mod i.val 128)
  have h := fun p : Dev nD => slab_at (I p) b (⟨i.val / 128, by omega⟩ : Fin 2) (⟨i.val % 128, Nat.mod_lt _ (by decide)⟩ : Fin 128) o
  simp only [hi] at h
  rw [← h 0, ← h 1, ← h 2, ← h 3]
  refine (sum_at _ _ _ _ _ _).trans ?_
  have u := fun p : Dev nD => congrFun (Cert.Rope.un_sq ((I p).slab (⟨2 * b.val + i.val / 128, by omega⟩ : Fin 4))) (ix3 (0 : Fin 1) (⟨i.val % 128, Nat.mod_lt _ (by decide)⟩ : Fin 128) o)
  rw [← u 0, ← u 1, ← u 2, ← u 3]
  rfl

end Cert.KerVal

end
-- ==== Proof.RefVal.lean ====
/- The reference's result at an index: projections, rotated pairs, scores, softmax, context, output. -/
module

public import proofs.«01_k».proof.Proof.Gen.ReferenceIdeal.Run
public import Idealize.ShloMosaic.Lib.Pointwise

@[expose] public section

set_option maxRecDepth 16384

noncomputable section

namespace Cert.RefVal

open Cert.ReferenceIdeal Cert.ReferenceIdeal.Gen Idealize.ShloMosaic

/-- The angle table: position times inverse frequency. -/
def angle : FVec Ideal S256x32 .f32 :=
  mulf (broadcastInDim S256x32 ![0, 1] bcast_S256x1_S256x32_0_1 (sitofp .f32 (broadcastInDim S256x1 ![0] bcast_S256_S256x1_0 (iotaInDim S256 32 0))))
    (broadcastInDim S256x32 ![0, 1] bcast_S1x32_S256x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32)) (muli (broadcastInDim S32 ![] bcast_S_S32 (constantI S_ 32 2#32)) (iotaInDim S32 32 0))))
            (broadcastInDim S32 ![] bcast_S_S32 (constant S_ .f32 0x42800000#32)))))))

/-- An angle's function, each entry twice. -/
def twice (t : FVec Ideal S256x32 .f32) : FVec Ideal S256x64 .f32 :=
  shapeCast _ (broadcastInDim S256x32x2 ![0, 1] bcast_S256x32_S256x32x2_0_1 t) shapeCasts_S256x32x2_S256x64

/-- A projection, by heads. -/
def proj (x : FVec Ideal S2x256x768 .bf16) (w : FVec Ideal S768x1024 .bf16) : FVec Ideal S2x256x16x64 .f32 :=
  shapeCast _ (Host.dotGeneral dot_S2x256x768_S768x1024_S2x256x1024_2_0_01_1_n_n none (extf .f32 x bitsLt_bf16_f32) (extf .f32 w bitsLt_bf16_f32)) shapeCasts_S2x256x1024_S2x256x16x64

/-- The pairs turned a quarter. -/
def turn (a : FVec Ideal S2x256x16x64 .f32) : FVec Ideal S2x256x16x64 .f32 :=
  shapeCast _ (concatenate S2x256x16x32x2 4 [⟨S2x256x16x32x1, (broadcastInDim S2x256x16x32x1 ![0, 1, 2, 3] bcast_S2x256x16x32_S2x256x16x32x1_0_1_2_3 (Host.negf (shapeCast _ (extractStridedSlice S2x256x16x32x1 ![0, 0, 0, 0, 1] (shapeCast _ a shapeCasts_S2x256x16x64_S2x256x16x32x2) slices_S2x256x16x32x2_S2x256x16x32x1_0_0_0_0_1) shapeCasts_S2x256x16x32x1_S2x256x16x32)))⟩, ⟨S2x256x16x32x1, (broadcastInDim S2x256x16x32x1 ![0, 1, 2, 3] bcast_S2x256x16x32_S2x256x16x32x1_0_1_2_3 (shapeCast _ (extractStridedSlice S2x256x16x32x1 ![0, 0, 0, 0, 0] (shapeCast _ a shapeCasts_S2x256x16x64_S2x256x16x32x2) slices_S2x256x16x32x2_S2x256x16x32x1_0_0_0_0_0) shapeCasts_S2x256x16x32x1_S2x256x16x32))⟩] concatenates_S2x256x16x32x1_S2x256x16x32x1_S2x256x16x32x2_d4) shapeCasts_S2x256x16x32x2_S2x256x16x64

/-- A projection rotated. -/
def rope (a : FVec Ideal S2x256x16x64 .f32) (c s : FVec Ideal S256x64 .f32) : FVec Ideal S2x256x16x64 .f32 :=
  addf (mulf a (broadcastInDim S2x256x16x64 ![0, 1, 2, 3] bcast_S1x256x1x64_S2x256x16x64_0_1_2_3 (broadcastInDim S1x256x1x64 ![1, 3] bcast_S256x64_S1x256x1x64_1_3 c)))
    (mulf (turn a) (broadcastInDim S2x256x16x64 ![0, 1, 2, 3] bcast_S1x256x1x64_S2x256x16x64_0_1_2_3 (broadcastInDim S1x256x1x64 ![1, 3] bcast_S256x64_S1x256x1x64_1_3 s)))

/-- The scaled scores. -/
def score (q k : FVec Ideal S2x256x16x64 .f32) : FVec Ideal S2x16x256x256 .f32 :=
  mulf (Host.dotGeneral dot_S2x256x16x64_S2x256x16x64_S2x16x256x256_3_3_1_1_02_02 none q k) (broadcastInDim S2x16x256x256 ![] bcast_S_S2x16x256x256 (constant S_ .f32 0x3E000000#32))

/-- Each row's greatest score. -/
def rowMax (s : FVec Ideal S2x16x256x256 .f32) : FVec Ideal S2x16x256 .f32 :=
  Host.reduce FloatOps.maximumf s (constant S_ .f32 0xFF800000#32) reducesTo_S2x16x256x256_S2x16x256_d3 h_S_

/-- The exponentials of the scores less the row's greatest. -/
def expo (s : FVec Ideal S2x16x256x256 .f32) : FVec Ideal S2x16x256x256 .f32 :=
  Host.exp (subf s (broadcastInDim S2x16x256x256 ![0, 1, 2, 3] bcast_S2x16x256x1_S2x16x256x256_0_1_2_3 (broadcastInDim S2x16x256x1 ![0, 1, 2] bcast_S2x16x256_S2x16x256x1_0_1_2 (rowMax s))))

/-- The softmax. -/
def soft (e : FVec Ideal S2x16x256x256 .f32) : FVec Ideal S2x16x256x256 .f32 :=
  Host.divf e (broadcastInDim S2x16x256x256 ![0, 1, 2, 3] bcast_S2x16x256x1_S2x16x256x256_0_1_2_3 (broadcastInDim S2x16x256x1 ![0, 1, 2] bcast_S2x16x256_S2x16x256x1_0_1_2
    (Host.reduceAdd e (constant S_ .f32 0x00000000#32) reducesTo_S2x16x256x256_S2x16x256_d3 h_S_)))

/-- The context. -/
def context (v : FVec Ideal S2x256x16x64 .f32) (p : FVec Ideal S2x16x256x256 .f32) : FVec Ideal S2x256x1024 .f32 :=
  shapeCast _ (transpose S2x256x16x64 [0, 3, 1, 2] (Host.dotGeneral dot_S2x256x16x64_S2x16x256x256_S2x16x64x256_1_3_3_2_02_01 none v p) transposes_S2x16x64x256_S2x256x16x64_0_3_1_2) shapeCasts_S2x256x16x64_S2x256x1024

/-- The output. -/
def final (a : FVec Ideal S2x256x1024 .f32) (wo : FVec Ideal S1024x768 .bf16) : FVec Ideal S2x256x768 .f32 :=
  Host.dotGeneral dot_S2x256x1024_S1024x768_S2x256x768_2_0_01_1_n_n none a (extf .f32 wo bitsLt_bf16_f32)

/-- The whole reference over its arguments. -/
def whole (x : FVec Ideal S2x256x768 .bf16) (wq wk wv : FVec Ideal S768x1024 .bf16) (wo : FVec Ideal S1024x768 .bf16) : FVec Ideal S2x256x768 .f32 :=
  final (context (proj x wv) (soft (expo (score (rope (proj x wq) (twice (Host.cos angle)) (twice (Host.sin angle))) (rope (proj x wk) (twice (Host.cos angle)) (twice (Host.sin angle))))))) wo

/-- The reference's run leaves `whole` of its arguments. -/
theorem res_eq (m : (ℓ : Loc nD τ sig) → Buf (Elt Ideal) ℓ) (c : Dev nD) :
    Cert.ReferenceIdeal.Value.res_main_v85 (F := Ideal) m c
      = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The angle at position `i` and pair `f`. -/
theorem angle_at (i : Fin 256) (f : Fin 32) : angle (ix2 i f)
    = FloatOps.sitofp (F := Ideal) FTy.f32 (BitVec.ofNat 32 i.val) * Ideal.div 1 (Ideal.pow (Ideal.ofBits FTy.f32 1176256512#32)
        (Ideal.div (FloatOps.sitofp (F := Ideal) FTy.f32 (IntOp.addi (0#32) (IntOp.muli (2#32) (BitVec.ofNat 32 f.val)))) (Ideal.ofBits FTy.f32 1115684864#32))) := by
  pointwise [angle]

/-- A doubled table at a column reads its pair. -/
theorem twice_at (t : FVec Ideal S256x32 .f32) (i : Fin 256) (d : Fin 64) : twice t (ix2 i d) = t (ix2 i (⟨d.val / 2, by omega⟩ : Fin 32)) := by
  pointwise [twice]

/-- A projection at head `h` and column `d` of it. -/
theorem proj_at (x : FVec Ideal S2x256x768 .bf16) (w : FVec Ideal S768x1024 .bf16) (b : Fin 2) (i : Fin 256) (h : Fin 16) (d : Fin 64) :
    proj x w (ix4 b i h d) = ∑ k : Fin 768, (x (ix3 b i k) : EReal) * w (ix2 k (⟨h.val * 64 + d.val, by omega⟩ : Fin 1024)) := by
  pointwise [proj]

/-- The quarter turn: an even column reads its right neighbour negated, an odd one its left neighbour. -/
theorem turn_at (a : FVec Ideal S2x256x16x64 .f32) (b : Fin 2) (i : Fin 256) (h : Fin 16) (d : Fin 64) :
    turn a (ix4 b i h d) = if d.val % 2 < 1 then -(a (ix4 b i h (⟨d.val / 2 * 2 + 1, by omega⟩ : Fin 64)) : EReal) else a (ix4 b i h (⟨d.val / 2 * 2, by omega⟩ : Fin 64)) := by
  pointwise [turn]
  rfl

/-- A rotated projection. -/
theorem rope_at (a : FVec Ideal S2x256x16x64 .f32) (c s : FVec Ideal S256x64 .f32) (b : Fin 2) (i : Fin 256) (h : Fin 16) (d : Fin 64) :
    rope a c s (ix4 b i h d) = (a (ix4 b i h d) : EReal) * c (ix2 i d) + turn a (ix4 b i h d) * s (ix2 i d) := by
  pointwise [rope]

/-- A score: the product of a query row and a key row, an eighth of it. -/
theorem score_at (q k : FVec Ideal S2x256x16x64 .f32) (b : Fin 2) (h : Fin 16) (i j : Fin 256) :
    score q k (ix4 b h i j) = (∑ d : Fin 64, (q (ix4 b i h d) : EReal) * k (ix4 b j h d)) * Ideal.ofBits FTy.f32 1040187392#32 := by
  pointwise [score]

/-- A row's greatest score. -/
theorem rowMax_at (s : FVec Ideal S2x16x256x256 .f32) (b : Fin 2) (h : Fin 16) (i : Fin 256) :
    rowMax s (ix3 b h i) = Finset.fold max (Ideal.ofBits FTy.f32 4286578688#32) (fun j : Fin 256 => (s (ix4 b h i j) : EReal)) Finset.univ := by
  pointwise [rowMax]

/-- The exponential of a score less its row's greatest. -/
theorem expo_at (s : FVec Ideal S2x16x256x256 .f32) (b : Fin 2) (h : Fin 16) (i j : Fin 256) :
    expo s (ix4 b h i j) = Ideal.exp ((s (ix4 b h i j) : EReal) - rowMax s (ix3 b h i)) := by
  pointwise [expo]

/-- A weight: the exponential over its row's sum. -/
theorem soft_at (e : FVec Ideal S2x16x256x256 .f32) (b : Fin 2) (h : Fin 16) (i j : Fin 256) :
    soft e (ix4 b h i j) = Ideal.div (e (ix4 b h i j)) (∑ k : Fin 256, (e (ix4 b h i k) : EReal)) := by
  pointwise [soft]

/-- The context at column `n`: head `n / 64`, column `n % 64` of it. -/
theorem context_at (v : FVec Ideal S2x256x16x64 .f32) (p : FVec Ideal S2x16x256x256 .f32) (b : Fin 2) (i : Fin 256) (n : Fin 1024) :
    context v p (ix3 b i n) = ∑ j : Fin 256, (v (ix4 b j (⟨n.val / 64, by omega⟩ : Fin 16) (⟨n.val % 64, by omega⟩ : Fin 64)) : EReal) * p (ix4 b (⟨n.val / 64, by omega⟩ : Fin 16) i j) := by
  pointwise [context]

/-- The output at a column. -/
theorem final_at (a : FVec Ideal S2x256x1024 .f32) (wo : FVec Ideal S1024x768 .bf16) (b : Fin 2) (i : Fin 256) (o : Fin 768) :
    final a wo (ix3 b i o) = ∑ n : Fin 1024, (a (ix3 b i n) : EReal) * wo (ix2 n o) := by
  pointwise [final]

end Cert.RefVal

end
-- ==== Proof.Reals.lean ====
/- Extended-real arithmetic the two programs differ by: a factor that leaves a sum, softmax with and without its row maximum. -/
module

public import proofs.«01_k».proof.Defs
public import Idealize.ShloMosaic.Lib.IdealHost
public import Idealize.ShloMosaic.PureOps.Ideal.Laws

@[expose] public section

noncomputable section

namespace Cert.Reals

open Idealize.ShloMosaic

/-- The value is a real number. -/
def IsR (x : EReal) : Prop := ∃ r : ℝ, x = (r : EReal)

/-- A value that is neither infinity is a real number. -/
theorem isR_of_ne {x : EReal} (h₀ : x ≠ ⊥) (h₁ : x ≠ ⊤) : IsR x := ⟨x.toReal, (EReal.coe_toReal h₁ h₀).symm⟩

/-- A real sum. -/
theorem isR_add {x y : EReal} : IsR x → IsR y → IsR (x + y) := by
  rintro ⟨a, rfl⟩ ⟨b, rfl⟩; exact ⟨a + b, by norm_cast⟩

/-- A real product. -/
theorem isR_mul {x y : EReal} : IsR x → IsR y → IsR (x * y) := by
  rintro ⟨a, rfl⟩ ⟨b, rfl⟩; exact ⟨a * b, by norm_cast⟩

/-- A real negative. -/
theorem isR_neg {x : EReal} : IsR x → IsR (-x) := by
  rintro ⟨a, rfl⟩; exact ⟨-a, by norm_cast⟩

/-- A sum of reals, read as the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of real terms is real. -/
theorem isR_sum {ι : Type} (s : Finset ι) (f : ι → EReal) (h : ∀ i, IsR (f i)) : IsR (∑ i ∈ s, f i) := by
  choose g hg using h
  exact ⟨∑ i ∈ s, g i, by rw [← coe_sum]; exact Finset.sum_congr rfl fun i _ => hg i⟩

/-- The largest of finitely many reals, at least one, is real. -/
theorem isR_max {ι : Type} (s : Finset ι) (f : ι → EReal) (h : ∀ i, IsR (f i)) (hs : s.Nonempty) : IsR (Finset.fold max ⊥ f s) := by
  classical
  induction s using Finset.induction_on with
  | empty => exact absurd hs (by simp)
  | insert a s ha ih =>
    rw [Finset.fold_insert ha]
    rcases s.eq_empty_or_nonempty with rfl | hn
    · rw [Finset.fold_empty, max_eq_left bot_le]; exact h a
    · rcases max_choice (f a) (Finset.fold max ⊥ f s) with e | e <;> rw [e]
      · exact h a
      · exact ih hn

/-- The f32 pattern of one eighth. -/
theorem eighth : Ideal.ofBits FTy.f32 1040187392#32 = (((1 : ℝ) / 8 : ℝ) : EReal) := by
  simp [Ideal.ofBits, Ideal.ieee, -EReal.coe_mul]; norm_num

/-- The f32 pattern of minus infinity. -/
theorem neg_inf : Ideal.ofBits FTy.f32 4286578688#32 = ⊥ := by simp [Ideal.ofBits, Ideal.ieee]

/-- The bf16 pattern of minus infinity. -/
theorem neg_inf_bf16 : Ideal.ofBits FTy.bf16 0xFF80#16 = ⊥ := by simp [Ideal.ofBits, Ideal.ieee]

/-- The bf16 pattern of plus infinity. -/
theorem pos_inf_bf16 : Ideal.ofBits FTy.bf16 0x7F80#16 = ⊤ := by simp [Ideal.ofBits, Ideal.ieee]

/-- The f32 pattern of ten thousand. -/
theorem base : Ideal.ofBits FTy.f32 1176256512#32 = ((10000 : ℝ) : EReal) := by
  simp [Ideal.ofBits, Ideal.ieee, -EReal.coe_mul]; norm_num

/-- The f32 pattern of sixty-four. -/
theorem width : Ideal.ofBits FTy.f32 1115684864#32 = ((64 : ℝ) : EReal) := by
  simp [Ideal.ofBits, Ideal.ieee, -EReal.coe_mul]; norm_num

/-- A real quotient by a nonzero real. -/
theorem isR_div {x : EReal} {r : ℝ} (hx : IsR x) (h : r ≠ 0) : IsR (Ideal.div x (r : EReal)) := by
  rw [Ideal.div_coe h]; exact isR_mul hx ⟨_, rfl⟩

/-- A factor that is not negative and not infinite leaves a sum. -/
theorem sum_mul {ι : Type} (s : Finset ι) (f : ι → EReal) (c : EReal) (h₀ : 0 ≤ c) (h₁ : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h₀ h₁, ih]

/-- `exp` at a real. -/
theorem exp_coe (r : ℝ) : Ideal.exp (r : EReal) = ((Real.exp r : ℝ) : EReal) := rfl

/-- Softmax applied to any values, the scores real: dividing once at the end by the sum of the exponentials is weighting
    each value by its shifted exponential over the shifted sum. -/
theorem softmax {n : Nat} [NeZero n] (t v : Fin n → EReal) (M : EReal) (ht : ∀ j, IsR (t j)) (hM : IsR M) :
    (∑ j, Ideal.exp (t j) * v j) * Ideal.div 1 (∑ j, Ideal.exp (t j))
      = ∑ j, v j * Ideal.div (Ideal.exp (t j - M)) (∑ k, Ideal.exp (t k - M)) := by
  choose r hr using ht
  obtain ⟨M, rfl⟩ := hM
  have e₁ : ∀ j, Ideal.exp (t j) = ((Real.exp (r j) : ℝ) : EReal) := fun j => by rw [hr, exp_coe]
  have e₂ : ∀ j, Ideal.exp (t j - (M : EReal)) = ((Real.exp (r j - M) : ℝ) : EReal) := fun j => by
    rw [hr, ← EReal.coe_sub, exp_coe]
  simp only [e₁, e₂, coe_sum]
  have hS : 0 < ∑ j, Real.exp (r j) := Finset.sum_pos (fun j _ => Real.exp_pos _) Finset.univ_nonempty
  have hS' : ∑ j, Real.exp (r j - M) = (∑ j, Real.exp (r j)) * Real.exp (-M) := by
    rw [Finset.sum_mul]; exact Finset.sum_congr rfl fun j _ => by rw [← Real.exp_add, sub_eq_add_neg]
  have hS'' : (∑ j, Real.exp (r j - M)) ≠ 0 := by rw [hS']; exact (mul_pos hS (Real.exp_pos _)).ne'
  rw [Ideal.div_coe hS.ne', one_mul, sum_mul _ _ _ (EReal.coe_nonneg.mpr (one_div_pos.mpr hS).le) (EReal.coe_ne_top _)]
  refine Finset.sum_congr rfl fun j _ => ?_
  rw [Ideal.div_coe hS'', mul_comm _ (v j), mul_assoc, ← EReal.coe_mul, ← EReal.coe_mul]
  congr 2
  rw [hS', sub_eq_add_neg, Real.exp_add]
  have := (Real.exp_pos (-M)).ne'
  field_simp

/-- A row times the rotation matrix picks the neighbour of each column: the next one negated at an even column, the one
    before at an odd column. -/
theorem turn_sum (a : Fin 256 → EReal) (n : Fin 256) :
    (∑ l : Fin 256, a l * (if l.val = n.val + 1 ∧ n.val % 2 = 0 then (-1 : EReal) else if n.val = l.val + 1 ∧ l.val % 2 = 0 then 1 else 0))
      = if n.val % 2 < 1 then -(a ⟨n.val / 2 * 2 + 1, by omega⟩) else a ⟨n.val / 2 * 2, by omega⟩ := by
  by_cases hn : n.val % 2 < 1
  · rw [if_pos hn, Finset.sum_eq_single ⟨n.val / 2 * 2 + 1, by omega⟩]
    · rw [if_pos (by constructor <;> (try dsimp only) <;> omega), mul_neg, mul_one]
    · intro l _ hl
      have : l.val ≠ n.val / 2 * 2 + 1 := fun e => hl (Fin.ext e)
      rw [if_neg (by omega), if_neg (by omega), mul_zero]
    · simp
  · rw [if_neg hn, Finset.sum_eq_single ⟨n.val / 2 * 2, by omega⟩]
    · rw [if_neg (by dsimp only; omega), if_pos (by constructor <;> (try dsimp only) <;> omega), mul_one]
    · intro l _ hl
      have : l.val ≠ n.val / 2 * 2 := fun e => hl (Fin.ext e)
      rw [if_neg (by omega), if_neg (by omega), mul_zero]
    · simp

/-- A sum over 1024 columns is the sum of its four quarters, left to right. -/
theorem quarters (f : Fin 1024 → EReal) :
    ∑ n, f n = (((∑ n : Fin 256, f ⟨0 * 256 + n.val, by omega⟩) + ∑ n : Fin 256, f ⟨1 * 256 + n.val, by omega⟩)
      + ∑ n : Fin 256, f ⟨2 * 256 + n.val, by omega⟩) + ∑ n : Fin 256, f ⟨3 * 256 + n.val, by omega⟩ := by
  have h := Fin.sum_univ_add (a := 768) (b := 256) (fun i => f i)
  have h₂ := Fin.sum_univ_add (a := 512) (b := 256) (fun i : Fin (512 + 256) => f (Fin.castAdd 256 i))
  have h₁ := Fin.sum_univ_add (a := 256) (b := 256) (fun i : Fin (256 + 256) => f (Fin.castAdd 256 (Fin.castAdd 256 i)))
  refine h.trans ?_
  refine congrArg₂ (· + ·) (h₂.trans (congrArg₂ (· + ·) (h₁.trans (congrArg₂ (· + ·) ?_ ?_)) ?_)) ?_ <;>
    exact Finset.sum_congr rfl fun n _ => congrArg f (Fin.ext (by simp <;> omega))

/-- A value the two comparisons of the precondition both hold of is real. -/
theorem isR_of_cmp {x : EReal} (h : IntOp.andi (Ideal.cmp .ogt x ⊥) (Ideal.cmp .olt x ⊤) = 1#1) : IsR x := by
  apply isR_of_ne
  · rintro rfl; revert h; simp [Ideal.cmp, IntOp.andi]
  · rintro rfl; revert h; simp [Ideal.cmp, IntOp.andi]

end Cert.Reals

end
-- ==== Proof.Match.lean ====
/- A device's attention is the reference's at that device's heads. -/
module

public import proofs.«01_k».proof.Proof.KerVal
public import proofs.«01_k».proof.Proof.RefVal
public import proofs.«01_k».proof.Proof.Reals

@[expose] public section

set_option maxRecDepth 16384

noncomputable section

namespace Cert.Match

open Cert.KernelIdeal Cert.KernelIdeal.Gen Idealize.ShloMosaic Cert.Reals Cert.RefVal
open Cert.ReferenceIdeal (S768x1024 S1024x768 S2x256x16x64)
open Cert.Rope (Ins)

/-- The reference's cosines, by position and column of a head. -/
abbrev cosT : FVec Ideal Cert.ReferenceIdeal.S256x64 .f32 := twice (Host.cos angle)
/-- Its sines. -/
abbrev sinT : FVec Ideal Cert.ReferenceIdeal.S256x64 .f32 := twice (Host.sin angle)

/-- Every angle is real. -/
theorem isR_angle (i : Fin 256) (f : Fin 32) : IsR (angle (ix2 i f)) := by
  rw [angle_at]
  refine isR_mul ⟨_, rfl⟩ ?_
  rw [base, width, Ideal.div_coe (by norm_num : (64 : ℝ) ≠ 0)]
  have e : FloatOps.sitofp (F := Ideal) FTy.f32 (IntOp.addi (0#32) (IntOp.muli (2#32) (BitVec.ofNat 32 f.val)))
      = (((IntOp.addi (0#32) (IntOp.muli (2#32) (BitVec.ofNat 32 f.val))).toInt : ℝ) : EReal) := rfl
  rw [e, ← EReal.coe_mul]
  exact isR_div ⟨1, rfl⟩ (Real.rpow_pos_of_pos (by norm_num) _).ne'

/-- Every cosine is real. -/
theorem isR_cos (i : Fin 256) (d : Fin 64) : IsR (cosT (ix2 i d)) := by
  rw [show cosT (ix2 i d) = _ from twice_at _ i d]
  obtain ⟨r, hr⟩ := isR_angle i (⟨d.val / 2, by omega⟩ : Fin 32)
  exact ⟨Real.cos r, (congrArg Ideal.cos hr).trans rfl⟩

/-- Every sine is real. -/
theorem isR_sin (i : Fin 256) (d : Fin 64) : IsR (sinT (ix2 i d)) := by
  rw [show sinT (ix2 i d) = _ from twice_at _ i d]
  obtain ⟨r, hr⟩ := isR_angle i (⟨d.val / 2, by omega⟩ : Fin 32)
  exact ⟨Real.sin r, (congrArg Ideal.sin hr).trans rfl⟩

/-- A rotated projection of finite arrays is real. -/
theorem isR_rope (x : FVec Ideal S2x256x768 .bf16) (w : FVec Ideal S768x1024 .bf16) (hx : ∀ i, IsR (x i)) (hw : ∀ i, IsR (w i))
    (b : Fin 2) (i : Fin 256) (h : Fin 16) (d : Fin 64) : IsR (rope (proj x w) cosT sinT (ix4 b i h d)) := by
  have hp : ∀ d, IsR (proj x w (ix4 b i h d)) := fun d => by
    rw [proj_at]; exact isR_sum _ _ fun k => isR_mul (hx _) (hw _)
  rw [rope_at, turn_at]
  refine isR_add (isR_mul (hp d) (isR_cos i d)) (isR_mul ?_ (isR_sin i d))
  split
  · exact isR_neg (hp _)
  · exact hp _

/-- A device's columns of a projection are its heads of the reference's. -/
theorem proj_col (x : FVec Ideal S2x256x768 .bf16) (w : FVec Ideal S768x256 .bf16) (W : FVec Ideal S768x1024 .bf16) (c : Fin 4)
    (hw : ∀ k n, w (ix2 k n) = W (ix2 k (⟨c.val * 256 + n.val, by omega⟩ : Fin 1024))) (b : Fin 2) (i : Fin 256) (n : Fin 256) :
    (∑ k : Fin 768, (x (ix3 b i k) : EReal) * w (ix2 k n))
      = proj x W (ix4 b i (⟨4 * c.val + n.val / 64, by omega⟩ : Fin 16) (⟨n.val % 64, by omega⟩ : Fin 64)) := by
  rw [proj_at]
  refine Finset.sum_congr rfl fun k _ => ?_
  rw [hw]
  have e : (⟨c.val * 256 + n.val, by omega⟩ : Fin 1024) = ⟨(4 * c.val + n.val / 64) * 64 + n.val % 64, by omega⟩ := Fin.ext (by dsimp only; omega)
  rw [e]

/-- The rotation matrix's entries. -/
abbrev rot (l n : Fin 256) : EReal :=
  if l.val = n.val + 1 ∧ n.val % 2 = 0 then (-1 : EReal) else if n.val = l.val + 1 ∧ l.val % 2 = 0 then 1 else 0

/-- A device's row of a projection times the rotation matrix is the reference's quarter turn. -/
theorem turn_col (a : FVec Ideal S2x256x16x64 .f32) (c : Fin 4) (b : Fin 2) (i : Fin 256) (n : Fin 256) :
    (∑ l : Fin 256, (a (ix4 b i (⟨4 * c.val + l.val / 64, by omega⟩ : Fin 16) (⟨l.val % 64, by omega⟩ : Fin 64)) : EReal) * rot l n)
      = turn a (ix4 b i (⟨4 * c.val + n.val / 64, by omega⟩ : Fin 16) (⟨n.val % 64, by omega⟩ : Fin 64)) := by
  rw [turn_at]
  refine (turn_sum _ n).trans ?_
  have e₀ : (⟨4 * c.val + n.val / 2 * 2 / 64, by omega⟩ : Fin 16) = ⟨4 * c.val + n.val / 64, by omega⟩ := Fin.ext (by dsimp only; omega)
  have e₁ : (⟨n.val / 2 * 2 % 64, by omega⟩ : Fin 64) = ⟨n.val % 64 / 2 * 2, by omega⟩ := Fin.ext (by dsimp only; omega)
  have e₂ : (⟨4 * c.val + (n.val / 2 * 2 + 1) / 64, by omega⟩ : Fin 16) = ⟨4 * c.val + n.val / 64, by omega⟩ := Fin.ext (by dsimp only; omega)
  have e₃ : (⟨(n.val / 2 * 2 + 1) % 64, by omega⟩ : Fin 64) = ⟨n.val % 64 / 2 * 2 + 1, by omega⟩ := Fin.ext (by dsimp only; omega)
  by_cases hn : n.val % 2 < 1
  · rw [if_pos hn, if_pos (by dsimp only; omega), e₂, e₃]
  · rw [if_neg hn, if_neg (by dsimp only; omega), e₀, e₁]

/-- One eighth is not negative. -/
theorem eighth_nonneg : (0 : EReal) ≤ Ideal.ofBits FTy.f32 1040187392#32 := by
  rw [eighth]; exact EReal.coe_nonneg.mpr (by norm_num)

/-- One eighth is not infinite. -/
theorem eighth_ne_top : Ideal.ofBits FTy.f32 1040187392#32 ≠ ⊤ := by
  rw [eighth]; exact EReal.coe_ne_top _

section

variable (x : FVec Ideal S2x256x768 .bf16) (w : FVec Ideal S768x256 .bf16) (W : FVec Ideal S768x1024 .bf16) (c : Fin 4)
  (hw : ∀ k n, w (ix2 k n) = W (ix2 k (⟨c.val * 256 + n.val, by omega⟩ : Fin 1024)))
  (C S : FVec Ideal S512x256 .bf16) (r : FVec Ideal S256x256 .bf16) (hr : ∀ l n, r (ix2 l n) = rot l n)

include hw hr

/-- A device's rotated keys are the reference's, at that device's heads. -/
theorem k_col (hC : ∀ (b : Fin 2) (i n : Fin 256), C (ix2 (⟨b.val * 256 + i.val, by omega⟩ : Fin 512) n) = cosT (ix2 i (⟨n.val % 64, by omega⟩ : Fin 64)))
    (hS : ∀ (b : Fin 2) (i n : Fin 256), S (ix2 (⟨b.val * 256 + i.val, by omega⟩ : Fin 512) n) = sinT (ix2 i (⟨n.val % 64, by omega⟩ : Fin 64)))
    (b : Fin 2) (i n : Fin 256) :
    k0_pay8 (F := Ideal) (k0_pay2 w) x C r S (ix2 (⟨b.val * 256 + i.val, by omega⟩ : Fin 512) n)
      = rope (proj x W) cosT sinT (ix4 b i (⟨4 * c.val + n.val / 64, by omega⟩ : Fin 16) (⟨n.val % 64, by omega⟩ : Fin 64)) := by
  rw [Cert.KerVal.k_at, rope_at, hC, hS]
  simp only [proj_col x w W c hw b i, hr]
  rw [turn_col]

/-- A device's rotated queries are the reference's, an eighth of them. -/
theorem q_col (hC : ∀ (b : Fin 2) (i n : Fin 256), C (ix2 (⟨b.val * 256 + i.val, by omega⟩ : Fin 512) n) = (cosT (ix2 i (⟨n.val % 64, by omega⟩ : Fin 64)) : EReal) * Ideal.ofBits FTy.f32 1040187392#32)
    (hS : ∀ (b : Fin 2) (i n : Fin 256), S (ix2 (⟨b.val * 256 + i.val, by omega⟩ : Fin 512) n) = (sinT (ix2 i (⟨n.val % 64, by omega⟩ : Fin 64)) : EReal) * Ideal.ofBits FTy.f32 1040187392#32)
    (b : Fin 2) (i n : Fin 256) :
    k0_pay7 (F := Ideal) (k0_pay1 w) x C r S (ix2 (⟨b.val * 256 + i.val, by omega⟩ : Fin 512) n)
      = (rope (proj x W) cosT sinT (ix4 b i (⟨4 * c.val + n.val / 64, by omega⟩ : Fin 16) (⟨n.val % 64, by omega⟩ : Fin 64)) : EReal) * Ideal.ofBits FTy.f32 1040187392#32 := by
  rw [Cert.KerVal.q_at, rope_at, hC, hS]
  simp only [proj_col x w W c hw b i, hr]
  rw [turn_col, ← mul_assoc, ← mul_assoc, ← EReal.right_distrib_of_nonneg_of_ne_top eighth_nonneg eighth_ne_top]

end

/-- One head: the kernel's, from its rows, is the reference's context at the head's column. -/
theorem head_eq (q k v : FVec Ideal S512x256 .bf16) (Q K V : FVec Ideal S2x256x16x64 .f32) (c : Fin 4)
    (hq : ∀ (b : Fin 2) (i n : Fin 256), q (ix2 (⟨b.val * 256 + i.val, by omega⟩ : Fin 512) n)
      = (Q (ix4 b i (⟨4 * c.val + n.val / 64, by omega⟩ : Fin 16) (⟨n.val % 64, by omega⟩ : Fin 64)) : EReal) * Ideal.ofBits FTy.f32 1040187392#32)
    (hk : ∀ (b : Fin 2) (i n : Fin 256), k (ix2 (⟨b.val * 256 + i.val, by omega⟩ : Fin 512) n)
      = K (ix4 b i (⟨4 * c.val + n.val / 64, by omega⟩ : Fin 16) (⟨n.val % 64, by omega⟩ : Fin 64)))
    (hv : ∀ (b : Fin 2) (i n : Fin 256), v (ix2 (⟨b.val * 256 + i.val, by omega⟩ : Fin 512) n)
      = V (ix4 b i (⟨4 * c.val + n.val / 64, by omega⟩ : Fin 16) (⟨n.val % 64, by omega⟩ : Fin 64)))
    (hQ : ∀ (b : Fin 2) (i : Fin 256) (h : Fin 16) (d : Fin 64), IsR (Q (ix4 b i h d)))
    (hK : ∀ (b : Fin 2) (i : Fin 256) (h : Fin 16) (d : Fin 64), IsR (K (ix4 b i h d)))
    (b : Fin 2) (i n : Fin 256) :
    Cert.KerVal.head q k v b (⟨n.val / 64, by omega⟩ : Fin 4) i (⟨n.val % 64, by omega⟩ : Fin 64)
      = context V (soft (expo (score Q K))) (ix3 b i (⟨c.val * 256 + n.val, by omega⟩ : Fin 1024)) := by
  have en : (⟨n.val / 64 * 64 + n.val % 64, by omega⟩ : Fin 256) = n := Fin.ext (by dsimp only; omega)
  have eh : (⟨(c.val * 256 + n.val) / 64, by omega⟩ : Fin 16) = ⟨4 * c.val + n.val / 64, by omega⟩ := Fin.ext (by dsimp only; omega)
  have ed : (⟨(c.val * 256 + n.val) % 64, by omega⟩ : Fin 64) = ⟨n.val % 64, by omega⟩ := Fin.ext (by dsimp only; omega)
  have et : ∀ j : Fin 256, (∑ e : Fin 64, (q (ix2 (⟨b.val * 256 + i.val, by omega⟩ : Fin 512) (⟨n.val / 64 * 64 + e.val, by omega⟩ : Fin 256)) : EReal)
        * k (ix2 (⟨b.val * 256 + j.val, by omega⟩ : Fin 512) (⟨n.val / 64 * 64 + e.val, by omega⟩ : Fin 256)))
      = score Q K (ix4 b (⟨4 * c.val + n.val / 64, by omega⟩ : Fin 16) i j) := fun j => by
    rw [score_at, sum_mul _ _ _ eighth_nonneg eighth_ne_top]
    refine Finset.sum_congr rfl fun e _ => ?_
    have e₁ : (⟨4 * c.val + (n.val / 64 * 64 + e.val) / 64, by omega⟩ : Fin 16) = ⟨4 * c.val + n.val / 64, by omega⟩ := Fin.ext (by dsimp only; omega)
    have e₂ : (⟨(n.val / 64 * 64 + e.val) % 64, by omega⟩ : Fin 64) = e := Fin.ext (by dsimp only; omega)
    rw [hq, hk]
    dsimp only
    rw [e₁, e₂, mul_right_comm]
  have hs : ∀ j : Fin 256, IsR (score Q K (ix4 b (⟨4 * c.val + n.val / 64, by omega⟩ : Fin 16) i j)) := fun j => by
    rw [score_at, eighth]
    exact isR_mul (isR_sum _ _ fun d => isR_mul (hQ _ _ _ _) (hK _ _ _ _)) ⟨_, rfl⟩
  have hM : IsR (rowMax (score Q K) (ix3 b (⟨4 * c.val + n.val / 64, by omega⟩ : Fin 16) i)) := by
    rw [rowMax_at, neg_inf]
    exact isR_max _ _ hs Finset.univ_nonempty
  rw [context_at]
  dsimp only
  rw [eh, ed]
  unfold Cert.KerVal.head
  dsimp only
  simp only [et, en, hv, soft_at, expo_at]
  exact softmax _ _ _ hs hM

end Cert.Match

end
-- ==== Proof.Tables.lean ====
/- The blocks a device's kernel reads: its arguments, and the tables the host builds, at an index. -/
module

public import proofs.«01_k».proof.Proof.Call
public import proofs.«01_k».proof.Proof.RefVal
public import Idealize.ShloMosaic.Lib.StableHlo.ReadAt
public import Idealize.ShloMosaic.Lib.Tactic.WordOmega
public import Idealize.ShloMosaic.Lib.Pipeline.ValueKit

@[expose] public section

set_option maxRecDepth 16384

noncomputable section

namespace Cert.Tables

open Cert.KernelIdeal Cert.KernelIdeal.Gen Idealize.ShloMosaic Idealize.ShloMosaic.TcCoe Cert.Rope

variable (m : (ℓ : Loc nD τ sig) → Buf (Elt Ideal) ℓ) (c : Dev nD)

/-- Every window's block is at the origin. -/
theorem idx : ∀ t : Fin cfg0.N, win0_0.index t = ![0, 0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

/-- The kernel's `x` is the device's argument. -/
theorem blk_x : (ins m c).x = m ((c : Thread nD τ).loc main_arg0) := by
  show iblk m c 0 t0_0 = _
  blk_ext! [iblk, V_main_arg0, idx t0_0]

/-- The kernel's `wq` is the device's argument. -/
theorem blk_wq : (ins m c).wq = m ((c : Thread nD τ).loc main_arg1) := by
  show iblk m c 1 t0_0 = _
  blk_ext! [iblk, V_main_arg1, idx t0_0]

/-- The kernel's `wk` is the device's argument. -/
theorem blk_wk : (ins m c).wk = m ((c : Thread nD τ).loc main_arg2) := by
  show iblk m c 2 t0_0 = _
  blk_ext! [iblk, V_main_arg2, idx t0_0]

/-- The kernel's `wv` is the device's argument. -/
theorem blk_wv : (ins m c).wv = m ((c : Thread nD τ).loc main_arg3) := by
  show iblk m c 3 t0_0 = _
  blk_ext! [iblk, V_main_arg3, idx t0_0]

/-- The kernel's `wo` is the device's argument. -/
theorem blk_wo : (ins m c).wo = m ((c : Thread nD τ).loc main_arg4) := by
  show iblk m c 4 t0_0 = _
  blk_ext! [iblk, V_main_arg4, idx t0_0]

/-- The kernel's `cq` is the host's table. -/
theorem blk_cq : (ins m c).cq = V m c main_v59 := by
  show iblk m c 5 t0_0 = _
  unfold iblk
  generalize V m c main_v59 = A
  blk_ext! [idx t0_0]

/-- The kernel's `sq` is the host's table. -/
theorem blk_sq : (ins m c).sq = V m c main_v62 := by
  show iblk m c 6 t0_0 = _
  unfold iblk
  generalize V m c main_v62 = A
  blk_ext! [idx t0_0]

/-- The kernel's `ck` is the host's table. -/
theorem blk_ck : (ins m c).ck = V m c main_v63 := by
  show iblk m c 7 t0_0 = _
  unfold iblk
  generalize V m c main_v63 = A
  blk_ext! [idx t0_0]

/-- The kernel's `sk` is the host's table. -/
theorem blk_sk : (ins m c).sk = V m c main_v64 := by
  show iblk m c 8 t0_0 = _
  unfold iblk
  generalize V m c main_v64 = A
  blk_ext! [idx t0_0]

/-- The kernel's `r` is the host's table. -/
theorem blk_r : (ins m c).r = V m c main_v65 := by
  show iblk m c 9 t0_0 = _
  unfold iblk
  generalize V m c main_v65 = A
  blk_ext! [idx t0_0]

set_option maxHeartbeats 4000000 in
/-- The queries' cosines: the reference's, an eighth of them, repeated over batches and heads. -/
theorem cq_at (b : Fin 2) (i : Fin 256) (n : Fin 256) :
    V m c main_v59 (ix2 (⟨b.val * 256 + i.val, by omega⟩ : Fin 512) n)
      = (Cert.RefVal.twice (Host.cos Cert.RefVal.angle) (ix2 i (⟨n.val % 64, by omega⟩ : Fin 64)) : EReal) * Ideal.ofBits FTy.f32 1040187392#32 := by
  have hi : (b.val * 256 + i.val) % 256 = i.val := by omega
  have ha : (Host.cos Cert.RefVal.angle (ix2 i (⟨n.val % 64 / 2, by omega⟩ : Fin 32)) : EReal) = Ideal.cos (Cert.RefVal.angle (ix2 i (⟨n.val % 64 / 2, by omega⟩ : Fin 32))) := rfl
  rw [Cert.RefVal.twice_at, ha, Cert.RefVal.angle_at]
  unfold V hostOps0
  after_reads_at
  rw [hi]

set_option maxHeartbeats 4000000 in
/-- The queries' sines likewise. -/
theorem sq_at (b : Fin 2) (i : Fin 256) (n : Fin 256) :
    V m c main_v62 (ix2 (⟨b.val * 256 + i.val, by omega⟩ : Fin 512) n)
      = (Cert.RefVal.twice (Host.sin Cert.RefVal.angle) (ix2 i (⟨n.val % 64, by omega⟩ : Fin 64)) : EReal) * Ideal.ofBits FTy.f32 1040187392#32 := by
  have hi : (b.val * 256 + i.val) % 256 = i.val := by omega
  have ha : (Host.sin Cert.RefVal.angle (ix2 i (⟨n.val % 64 / 2, by omega⟩ : Fin 32)) : EReal) = Ideal.sin (Cert.RefVal.angle (ix2 i (⟨n.val % 64 / 2, by omega⟩ : Fin 32))) := rfl
  rw [Cert.RefVal.twice_at, ha, Cert.RefVal.angle_at]
  unfold V hostOps0
  after_reads_at
  rw [hi]

set_option maxHeartbeats 4000000 in
/-- The keys' cosines. -/
theorem ck_at (b : Fin 2) (i : Fin 256) (n : Fin 256) :
    V m c main_v63 (ix2 (⟨b.val * 256 + i.val, by omega⟩ : Fin 512) n)
      = (Cert.RefVal.twice (Host.cos Cert.RefVal.angle) (ix2 i (⟨n.val % 64, by omega⟩ : Fin 64)) : EReal) := by
  have hi : (b.val * 256 + i.val) % 256 = i.val := by omega
  have ha : (Host.cos Cert.RefVal.angle (ix2 i (⟨n.val % 64 / 2, by omega⟩ : Fin 32)) : EReal) = Ideal.cos (Cert.RefVal.angle (ix2 i (⟨n.val % 64 / 2, by omega⟩ : Fin 32))) := rfl
  rw [Cert.RefVal.twice_at, ha, Cert.RefVal.angle_at]
  unfold V hostOps0
  after_reads_at
  rw [hi]

set_option maxHeartbeats 4000000 in
/-- The keys' sines. -/
theorem sk_at (b : Fin 2) (i : Fin 256) (n : Fin 256) :
    V m c main_v64 (ix2 (⟨b.val * 256 + i.val, by omega⟩ : Fin 512) n)
      = (Cert.RefVal.twice (Host.sin Cert.RefVal.angle) (ix2 i (⟨n.val % 64, by omega⟩ : Fin 64)) : EReal) := by
  have hi : (b.val * 256 + i.val) % 256 = i.val := by omega
  have ha : (Host.sin Cert.RefVal.angle (ix2 i (⟨n.val % 64 / 2, by omega⟩ : Fin 32)) : EReal) = Ideal.sin (Cert.RefVal.angle (ix2 i (⟨n.val % 64 / 2, by omega⟩ : Fin 32))) := rfl
  rw [Cert.RefVal.twice_at, ha, Cert.RefVal.angle_at]
  unfold V hostOps0
  after_reads_at
  rw [hi]

/-- The host's test of one diagonal: row one past an even column. -/
theorem next_even (a b : Fin 256) : IntOp.andi (IntOp.cmpi CmpIPredicate.eq (BitVec.ofNat 32 a.val) (IntOp.addi (BitVec.ofNat 32 b.val) 1#32))
      (IntOp.cmpi CmpIPredicate.eq (IntOp.andi (BitVec.ofNat 32 b.val) 1#32) 0#32) = if a.val = b.val + 1 ∧ b.val % 2 = 0 then 1#1 else 0#1 := by
  have h1 : IntOp.cmpi CmpIPredicate.eq (BitVec.ofNat 32 a.val) (IntOp.addi (BitVec.ofNat 32 b.val) 1#32) = if a.val = b.val + 1 then 1#1 else 0#1 := by
    have : (BitVec.ofNat 32 a.val = BitVec.ofNat 32 b.val + 1#32) ↔ a.val = b.val + 1 := by
      rw [← BitVec.toNat_inj]
      simp only [BitVec.toNat_ofNat, BitVec.toNat_add]
      omega
    by_cases h : a.val = b.val + 1
    · rw [if_pos h, this.mpr h]
      simp [IntOp.cmpi, IntOp.addi]
    · rw [if_neg h]
      have h' := mt this.mp h
      show BitVec.ofBool (BitVec.ofNat 32 a.val == BitVec.ofNat 32 b.val + 1#32) = 0#1
      rw [beq_eq_false_iff_ne.mpr h']
      rfl
  have h2 : IntOp.cmpi CmpIPredicate.eq (IntOp.andi (BitVec.ofNat 32 b.val) 1#32) 0#32 = if b.val % 2 = 0 then 1#1 else 0#1 :=
    (by decide +kernel : ∀ b : Fin 256, IntOp.cmpi CmpIPredicate.eq (IntOp.andi (BitVec.ofNat 32 b.val) 1#32) 0#32 = if b.val % 2 = 0 then 1#1 else 0#1) b
  rw [h1, h2]
  by_cases h : a.val = b.val + 1 <;> by_cases h' : b.val % 2 = 0 <;> simp [h, h'] <;> rfl

set_option maxHeartbeats 4000000 in
/-- The rotation's entries: below the diagonal −1 in an even column, above it 1 in an odd one, 0 elsewhere. -/
theorem r_at (l n : Fin 256) :
    V m c main_v65 (ix2 l n) = if l.val = n.val + 1 ∧ n.val % 2 = 0 then (-1 : EReal) else if n.val = l.val + 1 ∧ l.val % 2 = 0 then 1 else 0 := by
  unfold V hostOps0
  after_reads_at
  rw [next_even l n, next_even n l]
  have h1 : ∀ a b : EReal, Scalar.select 1#1 a b = a := fun _ _ => rfl
  have h0 : ∀ a b : EReal, Scalar.select 0#1 a b = b := fun _ _ => rfl
  by_cases h : l.val = n.val + 1 ∧ n.val % 2 = 0
  · rw [if_pos h, if_pos h]
    exact (h1 _ _).trans (zero_sub _)
  · rw [if_neg h, if_neg h]
    refine (h0 _ _).trans ?_
    by_cases h' : n.val = l.val + 1 ∧ l.val % 2 = 0
    · rw [if_pos h', if_pos h']
      exact h1 _ _
    · rw [if_neg h', if_neg h']
      exact h0 _ _

end Cert.Tables

end
-- ==== Proof.Value.lean ====
/- The kernel's result is the reference's, from finite `x`, `Wq`, `Wk` and cut weights. -/
module

public import proofs.«01_k».proof.Proof.Match
public import proofs.«01_k».proof.Proof.Tables
public import proofs.«01_k».proof.Proof.Launch
public import proofs.«01_k».proof.Proof.Gen.ReferenceIdeal

@[expose] public section

set_option maxRecDepth 16384

noncomputable section

namespace Cert.Value

open Cert.KernelIdeal Cert.KernelIdeal.Gen Idealize.ShloMosaic Idealize.ShloMosaic.TcCoe Cert.Reals Cert.RefVal Cert.Match
open Cert.ReferenceIdeal (S768x1024 S1024x768)
open Cert.Rope (Ins ins)

/-- Device `c`'s block of an array cut along its columns. -/
theorem cols_at (W : FVec Ideal S768x1024 .bf16) (c : Fin 4) (k : Fin 768) (n : Fin 256) :
    Layout.block ⟨2, ![768, 256]⟩ ⟨2, ![768, 1024]⟩ 1 4 c W (by decide) (ix2 k n) = W (ix2 k (⟨c.val * 256 + n.val, by omega⟩ : Fin 1024)) := by
  rw [Layout.block_apply]
  refine congrArg W (funext fun a => ?_)
  match a with
  | 0 => rfl
  | 1 => rfl

/-- Device `c`'s block of an array cut along its rows. -/
theorem rows_at (W : FVec Ideal S1024x768 .bf16) (c : Fin 4) (n : Fin 256) (o : Fin 768) :
    Layout.block ⟨2, ![256, 768]⟩ ⟨2, ![1024, 768]⟩ 0 4 c W (by decide) (ix2 n o) = W (ix2 (⟨c.val * 256 + n.val, by omega⟩ : Fin 1024) o) := by
  rw [Layout.block_apply]
  refine congrArg W (funext fun a => ?_)
  match a with
  | 0 => rfl
  | 1 => rfl

/-- An array whose every device's columns are finite is finite. -/
theorem isR_cols (W : FVec Ideal S768x1024 .bf16)
    (h : ∀ (c : Fin 4) (i : S768x256.Idx), IsR (Layout.block ⟨2, ![768, 256]⟩ ⟨2, ![768, 1024]⟩ 1 4 c W (by decide) i)) : ∀ i, IsR (W i) := by
  intro j
  idx_vars j
  have := h (⟨j1.val / 256, by omega⟩ : Fin 4) (ix2 j0 (⟨j1.val % 256, by omega⟩ : Fin 256))
  rw [cols_at] at this
  have e : (⟨j1.val / 256 * 256 + j1.val % 256, by omega⟩ : Fin 1024) = j1 := Fin.ext (by dsimp only; omega)
  rwa [e] at this

section

variable (m : (ℓ : Loc nD τ sig) → Buf (Elt Ideal) ℓ)
  (x : FVec Ideal S2x256x768 .bf16) (wq wk wv : FVec Ideal S768x1024 .bf16) (wo : FVec Ideal S1024x768 .bf16)
  (hx : ∀ c : Dev nD, m ((c : Thread nD τ).loc main_arg0) = x)
  (hwq : ∀ c : Dev nD, m ((c : Thread nD τ).loc main_arg1) = Layout.block ⟨2, ![768, 256]⟩ ⟨2, ![768, 1024]⟩ 1 4 c wq (by decide))
  (hwk : ∀ c : Dev nD, m ((c : Thread nD τ).loc main_arg2) = Layout.block ⟨2, ![768, 256]⟩ ⟨2, ![768, 1024]⟩ 1 4 c wk (by decide))
  (hwv : ∀ c : Dev nD, m ((c : Thread nD τ).loc main_arg3) = Layout.block ⟨2, ![768, 256]⟩ ⟨2, ![768, 1024]⟩ 1 4 c wv (by decide))
  (hwo : ∀ c : Dev nD, m ((c : Thread nD τ).loc main_arg4) = Layout.block ⟨2, ![256, 768]⟩ ⟨2, ![1024, 768]⟩ 0 4 c wo (by decide))
  (fx : ∀ i, IsR (x i)) (fq : ∀ i, IsR (wq i)) (fk : ∀ i, IsR (wk i))

include hx hwq hwk hwv fx fq fk in
/-- A device's attention output is the reference's context at the device's columns. -/
theorem ctx_eq (c : Dev nD) (b : Fin 2) (i n : Fin 256) :
    (ins m c).ctx (ix3 b i n)
      = context (proj x wv) (soft (expo (score (rope (proj x wq) cosT sinT) (rope (proj x wk) cosT sinT)))) (ix3 b i (⟨c.val * 256 + n.val, by have := c.isLt; simp only [nD] at this; omega⟩ : Fin 1024)) := by
  rw [Cert.KerVal.ctx_at]
  have ex : (ins m c).x = x := (Cert.Tables.blk_x m c).trans (hx c)
  have er : ∀ l n, (ins m c).r (ix2 l n) = rot l n := fun l n => by rw [Cert.Tables.blk_r, Cert.Tables.r_at]
  refine head_eq _ _ _ _ _ _ (c : Fin 4) (fun b i n => ?_) (fun b i n => ?_) (fun b i n => ?_) (isR_rope x wq fx fq) (isR_rope x wk fx fk) b i n
  · rw [← ex]
    exact q_col (ins m c).x (ins m c).wq wq c (fun k n => by rw [Cert.Tables.blk_wq, hwq]; exact cols_at wq c k n) (ins m c).cq (ins m c).sq (ins m c).r er
      (fun b i n => by rw [Cert.Tables.blk_cq, Cert.Tables.cq_at]) (fun b i n => by rw [Cert.Tables.blk_sq, Cert.Tables.sq_at]) b i n
  · rw [← ex]
    exact k_col (ins m c).x (ins m c).wk wk c (fun k n => by rw [Cert.Tables.blk_wk, hwk]; exact cols_at wk c k n) (ins m c).ck (ins m c).sk (ins m c).r er
      (fun b i n => by rw [Cert.Tables.blk_ck, Cert.Tables.ck_at]) (fun b i n => by rw [Cert.Tables.blk_sk, Cert.Tables.sk_at]) b i n
  · rw [← ex]
    exact (Cert.KerVal.v_at (ins m c).wv (ins m c).x b i n).trans
      (proj_col (ins m c).x (ins m c).wv wv c (fun k n => by rw [Cert.Tables.blk_wv, hwv]; exact cols_at wv c k n) b i n)

include hx hwq hwk hwv hwo fx fq fk in
/-- The kernel's result is the reference's over the whole arrays. -/
theorem out_eq : Cert.Rope.out (ins m) = whole x wq wk wv wo := by
  funext j
  idx_vars j
  rw [Cert.KerVal.out_at]
  unfold whole
  rw [final_at, quarters]
  have h : ∀ c : Dev nD, (∑ n : Fin 256, ((ins m c).ctx (ix3 j0 j1 n) : EReal) * (ins m c).wo (ix2 n j2))
      = ∑ n : Fin 256, (context (proj x wv) (soft (expo (score (rope (proj x wq) cosT sinT) (rope (proj x wk) cosT sinT)))) (ix3 j0 j1 (⟨c.val * 256 + n.val, by have := c.isLt; simp only [nD] at this; omega⟩ : Fin 1024)) : EReal)
          * wo (ix2 (⟨c.val * 256 + n.val, by have := c.isLt; simp only [nD] at this; omega⟩ : Fin 1024) j2) := fun c => by
    refine Finset.sum_congr rfl fun n _ => ?_
    rw [ctx_eq m x wq wk wv hx hwq hwk hwv fx fq fk c, Cert.Tables.blk_wo, hwo]
    exact congrArg _ (rows_at wo c n j2)
  rw [h 0, h 1, h 2, h 3]
  rfl

end

end Cert.Value

end
-- ==== Proof.Algebraic.lean ====
/- The algebraic claim: from finite inputs the kernel's result on every device is the reference's. -/
module

public import proofs.«01_k».proof.Proof.Value

@[expose] public section

set_option maxRecDepth 16384

noncomputable section

namespace Cert.Proof

open Idealize.ShloMosaic Cert.Reals

/-- The precondition's side conditions on a device's arrays hold. -/
theorem pre_facts_kernel : Cert.Pre_finite_KernelIdeal.Facts := ⟨by decide, by decide⟩

/-- And on whole arrays. -/
theorem pre_facts_reference : Cert.Pre_finite_ReferenceIdeal.Facts := ⟨by decide, by decide⟩

section

variable [hKernelIdeal : Cert.KernelIdeal.Facts] [hReferenceIdeal : Cert.ReferenceIdeal.Facts] [hPre : Cert.Pre_finite_KernelIdeal.Facts]

open Cert.Pre_finite_KernelIdeal (S2x256x768 S768x256 S256x768)

/-- The first array of the precondition, all ones, says `x` is real. -/
theorem real_x (x : FVec Ideal S2x256x768 .bf16) (a b v : FVec Ideal S768x256 .bf16) (w : FVec Ideal S256x768 .bf16)
    (h : (Cert.Pre_finite_KernelIdeal.fn (F := Ideal) x a b v w).1 = fun _ => 1#1) : ∀ i, IsR (x i) := fun i =>
  isR_of_cmp (by rw [← neg_inf_bf16, ← pos_inf_bf16]; exact congrFun h i)

/-- The second array says the query weights are. -/
theorem real_wq (x : FVec Ideal S2x256x768 .bf16) (a b v : FVec Ideal S768x256 .bf16) (w : FVec Ideal S256x768 .bf16)
    (h : (Cert.Pre_finite_KernelIdeal.fn (F := Ideal) x a b v w).2.1 = fun _ => 1#1) : ∀ i, IsR (a i) := fun i =>
  isR_of_cmp (by rw [← neg_inf_bf16, ← pos_inf_bf16]; exact congrFun h i)

/-- The third says the key weights are. -/
theorem real_wk (x : FVec Ideal S2x256x768 .bf16) (a b v : FVec Ideal S768x256 .bf16) (w : FVec Ideal S256x768 .bf16)
    (h : (Cert.Pre_finite_KernelIdeal.fn (F := Ideal) x a b v w).2.2 = fun _ => 1#1) : ∀ i, IsR (b i) := fun i =>
  isR_of_cmp (by rw [← neg_inf_bf16, ← pos_inf_bf16]; exact congrFun h i)

end

/-- From finite `x`, `Wq` and `Wk`, the weights cut over the devices by heads, both programs run, keep their arguments, and
    every device's result is the reference's. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := pre_facts_kernel) := by
  intro m g m' g' hpre hin
  refine ⟨Cert.ReferenceIdeal.Value.res_main_v85 (F := Ideal) m' 0, ?_, ?_⟩
  rotate_left
  · exact (θ_run Cert.ReferenceIdeal.defs _ _).mono (fun r h => h 0)
      (Cert.ReferenceIdeal.Value.run (F := Ideal) m' g')
  · refine (θ_run Cert.KernelIdeal.defs _ _).mono (fun r h c => ⟨(h.1 c).1.trans ?_, (h.1 c).2⟩) (Cert.Rope.run_main (F := Ideal) m g)
    rw [Cert.RefVal.res_eq]
    refine Cert.Value.out_eq m _ _ _ _ _ (fun c => (hin c).1) (fun c => (hin c).2.1) (fun c => (hin c).2.2.1) (fun c => (hin c).2.2.2.1)
      (fun c => (hin c).2.2.2.2) ?_ ?_ ?_
    · rw [← (hin 0).1]
      exact real_x (hPre := pre_facts_kernel) _ _ _ _ _ (hpre 0).1
    · refine Cert.Value.isR_cols _ fun c i => ?_
      rw [← (hin c).2.1]
      exact real_wq (hPre := pre_facts_kernel) _ _ _ _ _ (hpre c).2.1 i
    · refine Cert.Value.isR_cols _ fun c i => ?_
      rw [← (hin c).2.2.1]
      exact real_wk (hPre := pre_facts_kernel) _ _ _ _ _ (hpre c).2.2 i

end Cert.Proof

end
-- ==== Proof.lean ====
/- The proof of the certificate's claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

/-- The frames of the three programs, the idealized text being the printed one, and the kernel's results being the
    reference's. -/
theorem claim : Cert.Claim := ⟨Cert.Kernel.Gen.facts, Cert.KernelIdeal.Gen.facts, Cert.ReferenceIdeal.Gen.facts,
  pre_facts_kernel, pre_facts_reference, frame_kernel, frame_ideal, fun m g _ => frame_ideal m g trivial, frame_reference,
  fun m g _ => frame_reference m g trivial, trivial, algebraic⟩

end Cert.Proof

end
